-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v83) = v2 c
          ∧ r.2.mem ((c.tc : Thread Cert.Reference3Ideal.nD Cert.Reference3Ideal.τ).loc Cert.Reference3Ideal.main_v84) = v3 c
          ∧ r.2.mem ((c.tc : Thread Cert.Reference3Ideal.nD Cert.Reference3Ideal.τ).loc Cert.Reference3Ideal.main_v85) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32x8x48x64 : Shape := ⟨4, ![32, 8, 48, 64]⟩
abbrev S32x2048x48x64 : Shape := ⟨4, ![32, 2048, 48, 64]⟩
abbrev S32x48x8x64 : Shape := ⟨4, ![32, 48, 8, 64]⟩
abbrev S48x64x32x8 : Shape := ⟨4, ![48, 64, 32, 8]⟩
abbrev S48x64x256 : Shape := ⟨3, ![48, 64, 256]⟩
abbrev S32x48x64x2048 : Shape := ⟨4, ![32, 48, 64, 2048]⟩
abbrev S32x16x8x64 : Shape := ⟨4, ![32, 16, 8, 64]⟩
abbrev S1x48x8x64 : Shape := ⟨4, ![1, 48, 8, 64]⟩
abbrev S48x64x128 : Shape := ⟨3, ![48, 64, 128]⟩
abbrev S1x8x64x128 : Shape := ⟨4, ![1, 8, 64, 128]⟩
abbrev S1x8x64x512 : Shape := ⟨4, ![1, 8, 64, 512]⟩
abbrev S1x8x64x2048 : Shape := ⟨4, ![1, 8, 64, 2048]⟩
abbrev S1x8x8x64 : Shape := ⟨4, ![1, 8, 8, 64]⟩
abbrev S8x1 : Shape := ⟨2, ![8, 1]⟩
abbrev S1x128 : Shape := ⟨2, ![1, 128]⟩
abbrev S8x128 : Shape := ⟨2, ![8, 128]⟩
abbrev S1x512 : Shape := ⟨2, ![1, 512]⟩
abbrev S8x512 : Shape := ⟨2, ![8, 512]⟩
abbrev S1x2048 : Shape := ⟨2, ![1, 2048]⟩
abbrev S8x2048 : Shape := ⟨2, ![8, 2048]⟩
abbrev S1x1x8x64 : Shape := ⟨4, ![1, 1, 8, 64]⟩
abbrev S8x64 : Shape := ⟨2, ![8, 64]⟩
abbrev S1x1x64x128 : Shape := ⟨4, ![1, 1, 64, 128]⟩
abbrev S64x128 : Shape := ⟨2, ![64, 128]⟩
abbrev S1x64x128 : Shape := ⟨3, ![1, 64, 128]⟩
abbrev S1x1x64x512 : Shape := ⟨4, ![1, 1, 64, 512]⟩
abbrev S64x512 : Shape := ⟨2, ![64, 512]⟩
abbrev S1x1x64x2048 : Shape := ⟨4, ![1, 1, 64, 2048]⟩
abbrev S64x2048 : Shape := ⟨2, ![64, 2048]⟩
abbrev S8 : Shape := ⟨1, ![8]⟩

abbrev nBuf : Space → Nat
  | .hbm => 13
  | .vmem => 20
  | .smem => 0
  | _ => 0

abbrev bufTy : (tb : Table) → Fin (tcTables nBuf tb) → BufTy
  | .hbm, ⟨0, _⟩ => ⟨S32x8x48x64, .f32⟩
  | .hbm, ⟨1, _⟩ => ⟨S32x8x48x64, .f32⟩
  | .hbm, ⟨2, _⟩ => ⟨S32x8x48x64, .f32⟩
  | .hbm, ⟨3, _⟩ => ⟨S32x2048x48x64, .f32⟩
  | .hbm, ⟨4, _⟩ => ⟨S32x2048x48x64, .f32⟩
  | .hbm, ⟨5, _⟩ => ⟨S32x48x8x64, .f32⟩
  | .hbm, ⟨6, _⟩ => ⟨S48x64x32x8, .f32⟩
  | .hbm, ⟨7, _⟩ => ⟨S48x64x256, .f32⟩
  | .hbm, ⟨8, _⟩ => ⟨S48x64x32x8, .f32⟩
  | .hbm, ⟨9, _⟩ => ⟨S48x64x256, .f32⟩
  | .hbm, ⟨10, _⟩ => ⟨S32x48x64x2048, .f32⟩
  | .hbm, ⟨11, _⟩ => ⟨S32x48x64x2048, .f32⟩
  | .hbm, ⟨12, _⟩ => ⟨S32x16x8x64, .f32⟩
  | .local _ .vmem, ⟨0, _⟩ => ⟨S1x48x8x64, .f32⟩
  | .local _ .vmem, ⟨1, _⟩ => ⟨S1x48x8x64, .f32⟩
  | .local _ .vmem, ⟨2, _⟩ => ⟨S48x64x128, .f32⟩
  | .local _ .vmem, ⟨3, _⟩ => ⟨S48x64x128, .f32⟩
  | .local _ .vmem, ⟨4, _⟩ => ⟨S48x64x128, .f32⟩
  | .local _ .vmem, ⟨5, _⟩ => ⟨S48x64x128, .f32⟩
  | .local _ .vmem, ⟨6, _⟩ => ⟨S1x8x64x128, .f32⟩
  | .local _ .vmem, ⟨7, _⟩ => ⟨S1x8x64x128, .f32⟩
  | .local _ .vmem, ⟨8, _⟩ => ⟨S1x8x64x128, .f32⟩
  | .local _ .vmem, ⟨9, _⟩ => ⟨S1x8x64x128, .f32⟩
  | .local _ .vmem, ⟨10, _⟩ => ⟨S1x8x64x512, .f32⟩
  | .local _ .vmem, ⟨11, _⟩ => ⟨S1x8x64x512, .f32⟩
  | .local _ .vmem, ⟨12, _⟩ => ⟨S1x8x64x512, .f32⟩
  | .local _ .vmem, ⟨13, _⟩ => ⟨S1x8x64x512, .f32⟩
  | .local _ .vmem, ⟨14, _⟩ => ⟨S1x8x64x2048, .f32⟩
  | .local _ .vmem, ⟨15, _⟩ => ⟨S1x8x64x2048, .f32⟩
  | .local _ .vmem, ⟨16, _⟩ => ⟨S1x8x64x2048, .f32⟩
  | .local _ .vmem, ⟨17, _⟩ => ⟨S1x8x64x2048, .f32⟩
  | .local _ .vmem, ⟨18, _⟩ => ⟨S1x8x8x64, .f32⟩
  | .local _ .vmem, ⟨19, _⟩ => ⟨S1x8x8x64, .f32⟩
  | _, _ => ⟨S32x8x48x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 2], ![false, false]⟩

def k0_off1 (i : grid0.Coords) (c0_i32_20 : BitVec 32) (c0_i32_21 : BitVec 32) : Fin 4 → Nat :=
  let c0 : Index := 0#32
  let arg1 : BitVec 32 := BitVec.ofNat 32 (i 1).val
  let c8_i32_19 : BitVec 32 := 8#32
  let v99 : BitVec 32 := Scalar.muli arg1 c8_i32_19
  let v100 : BitVec 32 := Scalar.addi c0_i32_20 v99
  let v101 : BitVec 32 := Scalar.addi v100 c0_i32_21
  let v102 : Index := Scalar.indexCast v101
  let c0_22 : Index := 0#32
  let c0_23 : Index := 0#32
  ![0, v102.toNat, 0, 0]
def k0_off2 (i : grid0.Coords) (c0_i32_20 : BitVec 32) (c0_i32_21 : BitVec 32) : Fin 3 → Nat :=
  let arg1 : BitVec 32 := BitVec.ofNat 32 (i 1).val
  let c8_i32_19 : BitVec 32 := 8#32
  let v99 : BitVec 32 := Scalar.muli arg1 c8_i32_19
  let v100 : BitVec 32 := Scalar.addi c0_i32_20 v99
  let v101 : BitVec 32 := Scalar.addi v100 c0_i32_21
  let v114 : Index := Scalar.indexCast v101
  let c0_30 : Index := 0#32
  let c0_31 : Index := 0#32
  ![v114.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, c0_i32_5.toNat, v16.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c15_i32 : BitVec 32 := 15#32
  let c0_i32_1 : BitVec 32 := 0#32
  ![arg0.toNat, v0.toNat, c0_i32_0.toNat, c15_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c15_i32 : BitVec 32 := 15#32
  let c0_i32_1 : BitVec 32 := 0#32
  ![arg0.toNat, v0.toNat, c0_i32_0.toNat, c15_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c3_i32 : BitVec 32 := 3#32
  let c0_i32_0 : BitVec 32 := 0#32
  ![arg0.toNat, v0.toNat, c0_i32.toNat, c3_i32.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c3_i32 : BitVec 32 := 3#32
  let c0_i32_0 : BitVec 32 := 0#32
  ![arg0.toNat, v0.toNat, c0_i32.toNat, c3_i32.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x48x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S48x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S48x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S32x8x48x64 : Shape := ⟨4, ![32, 8, 48, 64]⟩
abbrev S32x2048x48x64 : Shape := ⟨4, ![32, 2048, 48, 64]⟩
abbrev S32x2056x48x64 : Shape := ⟨4, ![32, 2056, 48, 64]⟩
abbrev S32x8x16x64 : Shape := ⟨4, ![32, 8, 16, 64]⟩
abbrev S32x2056x16x64 : Shape := ⟨4, ![32, 2056, 16, 64]⟩
abbrev S8 : Shape := ⟨1, ![8]⟩
abbrev S8x1 : Shape := ⟨2, ![8, 1]⟩
abbrev S_ : Shape := ⟨0, ![]⟩
abbrev S129 : Shape := ⟨1, ![129]⟩
abbrev S1x129 : Shape := ⟨2, ![1, 129]⟩
abbrev S8x129 : Shape := ⟨2, ![8, 129]⟩
abbrev S8x129x1 : Shape := ⟨3, ![8, 129, 1]⟩
abbrev S32x8x129x16x64 : Shape := ⟨5, ![32, 8, 129, 16, 64]⟩
abbrev S32x8x16x129 : Shape := ⟨4, ![32, 8, 16, 129]⟩
abbrev S1x8x1x129 : Shape := ⟨4, ![1, 8, 1, 129]⟩
abbrev S32x8x16 : Shape := ⟨3, ![32, 8, 16]⟩
abbrev S32x8x16x1 : Shape := ⟨4, ![32, 8, 16, 1]⟩
abbrev S1x32x8x16 : Shape := ⟨4, ![1, 32, 8, 16]⟩
abbrev S3x32x8x16 : Shape := ⟨4, ![3, 32, 8, 16]⟩
abbrev S1x32x8x16x64 : Shape := ⟨5, ![1, 32, 8, 16, 64]⟩
abbrev S3x32x8x16x64 : Shape := ⟨5, ![3, 32, 8, 16, 64]⟩
abbrev S32x16x8x64 : Shape := ⟨4, ![32, 16, 8, 64]⟩

abbrev nBuf : Space → Nat
  | .hbm => 168
  | .vmem => 0
  | .smem => 0
  | _ => 0

abbrev hbmTy0_0 (i : Nat) : BufTy := match i % 128 with
  | 0 => ⟨S32x8x48x64, .f32⟩
  | 1 => ⟨S32x8x48x64, .f32⟩
  | 2 => ⟨S32x8x48x64, .f32⟩
  | 3 => ⟨S32x2048x48x64, .f32⟩
  | 4 => ⟨S32x2048x48x64, .f32⟩
  | 5 => ⟨S32x2056x48x64, .f32⟩
  | 6 => ⟨S32x2056x48x64, .f32⟩
  | 7 => ⟨S32x8x16x64, .f32⟩
  | 8 => ⟨S32x2056x16x64, .f32⟩
  | 9 => ⟨S32x2056x16x64, .f32⟩
  | 10 => ⟨S8, .i32⟩
  | 11 => ⟨S8x1, .i32⟩
  | 12 => ⟨S_, .i32⟩
  | 13 => ⟨S8x1, .i32⟩
  | 14 => ⟨S8x1, .i32⟩
  | 15 => ⟨S129, .i32⟩
  | 16 => ⟨S1x129, .i32⟩
  | 17 => ⟨S_, .i32⟩
  | 18 => ⟨S1x129, .i32⟩
  | 19 => ⟨S1x129, .i32⟩
  | 20 => ⟨S8x129, .i32⟩
  | 21 => ⟨S8x129, .i32⟩
  | 22 => ⟨S8x129, .i32⟩
  | 23 => ⟨S_, .i32⟩
  | 24 => ⟨S8x129, .i32⟩
  | 25 => ⟨S8x129, .i1⟩
  | 26 => ⟨S_, .i32⟩
  | 27 => ⟨S8x129, .i32⟩
  | 28 => ⟨S8x129, .i32⟩
  | 29 => ⟨S8x129x1, .i32⟩
  | 30 => ⟨S32x8x129x16x64, .f32⟩
  | 31 => ⟨S8x129x1, .i32⟩
  | 32 => ⟨S32x8x129x16x64, .f32⟩
  | 33 => ⟨S32x8x16x129, .f32⟩
  | 34 => ⟨S_, .f32⟩
  | 35 => ⟨S32x8x16x129, .f32⟩
  | 36 => ⟨S32x8x16x129, .f32⟩
  | 37 => ⟨S1x8x1x129, .i1⟩
  | 38 => ⟨S_, .f32⟩
  | 39 => ⟨S_, .f32⟩
  | 40 => ⟨S32x8x16x129, .i1⟩
  | 41 => ⟨S32x8x16x129, .f32⟩
  | 42 => ⟨S32x8x16x129, .f32⟩
  | 43 => ⟨S_, .f32⟩
  | 44 => ⟨S32x8x16, .f32⟩
  | 45 => ⟨S32x8x16x1, .f32⟩
  | 46 => ⟨S32x8x16x129, .f32⟩
  | 47 => ⟨S32x8x16x129, .f32⟩
  | 48 => ⟨S32x8x16x129, .f32⟩
  | 49 => ⟨S_, .f32⟩
  | 50 => ⟨S32x8x16, .f32⟩
  | 51 => ⟨S32x8x16x64, .f32⟩
  | 52 => ⟨S32x8x16x64, .f32⟩
  | 53 => ⟨S32x2056x16x64, .f32⟩
  | 54 => ⟨S32x2056x16x64, .f32⟩
  | 55 => ⟨S8, .i32⟩
  | 56 => ⟨S8x1, .i32⟩
  | 57 => ⟨S_, .i32⟩
  | 58 => ⟨S8x1, .i32⟩
  | 59 => ⟨S8x1, .i32⟩
  | 60 => ⟨S129, .i32⟩
  | 61 => ⟨S1x129, .i32⟩
  | 62 => ⟨S_, .i32⟩
  | 63 => ⟨S1x129, .i32⟩
  | 64 => ⟨S1x129, .i32⟩
  | 65 => ⟨S8x129, .i32⟩
  | 66 => ⟨S8x129, .i32⟩
  | 67 => ⟨S8x129, .i32⟩
  | 68 => ⟨S_, .i32⟩
  | 69 => ⟨S8x129, .i32⟩
  | 70 => ⟨S8x129, .i1⟩
  | 71 => ⟨S_, .i32⟩
  | 72 => ⟨S8x129, .i32⟩
  | 73 => ⟨S8x129, .i32⟩
  | 74 => ⟨S8x129x1, .i32⟩
  | 75 => ⟨S32x8x129x16x64, .f32⟩
  | 76 => ⟨S8x129x1, .i32⟩
  | 77 => ⟨S32x8x129x16x64, .f32⟩
  | 78 => ⟨S32x8x16x129, .f32⟩
  | 79 => ⟨S_, .f32⟩
  | 80 => ⟨S32x8x16x129, .f32⟩
  | 81 => ⟨S32x8x16x129, .f32⟩
  | 82 => ⟨S1x8x1x129, .i1⟩
  | 83 => ⟨S_, .f32⟩
  | 84 => ⟨S_, .f32⟩
  | 85 => ⟨S32x8x16x129, .i1⟩
  | 86 => ⟨S32x8x16x129, .f32⟩
  | 87 => ⟨S32x8x16x129, .f32⟩
  | 88 => ⟨S_, .f32⟩
  | 89 => ⟨S32x8x16, .f32⟩
  | 90 => ⟨S32x8x16x1, .f32⟩
  | 91 => ⟨S32x8x16x129, .f32⟩
  | 92 => ⟨S32x8x16x129, .f32⟩
  | 93 => ⟨S32x8x16x129, .f32⟩
  | 94 => ⟨S_, .f32⟩
  | 95 => ⟨S32x8x16, .f32⟩
  | 96 => ⟨S32x8x16x64, .f32⟩
  | 97 => ⟨S32x8x16x64, .f32⟩
  | 98 => ⟨S32x2056x16x64, .f32⟩
  | 99 => ⟨S32x2056x16x64, .f32⟩
  | 100 => ⟨S8, .i32⟩
  | 101 => ⟨S8x1, .i32⟩
  | 102 => ⟨S_, .i32⟩
  | 103 => ⟨S8x1, .i32⟩
  | 104 => ⟨S8x1, .i32⟩
  | 105 => ⟨S129, .i32⟩
  | 106 => ⟨S1x129, .i32⟩
  | 107 => ⟨S_, .i32⟩
  | 108 => ⟨S1x129, .i32⟩
  | 109 => ⟨S1x129, .i32⟩
  | 110 => ⟨S8x129, .i32⟩
  | 111 => ⟨S8x129, .i32⟩
  | 112 => ⟨S8x129, .i32⟩
  | 113 => ⟨S_, .i32⟩
  | 114 => ⟨S8x129, .i32⟩
  | 115 => ⟨S8x129, .i1⟩
  | 116 => ⟨S_, .i32⟩
  | 117 => ⟨S8x129, .i32⟩
  | 118 => ⟨S8x129, .i32⟩
  | 119 => ⟨S8x129x1, .i32⟩
  | 120 => ⟨S32x8x129x16x64, .f32⟩
  | 121 => ⟨S8x129x1, .i32⟩
  | 122 => ⟨S32x8x129x16x64, .f32⟩
  | 123 => ⟨S32x8x16x129, .f32⟩
  | 124 => ⟨S_, .f32⟩
  | 125 => ⟨S32x8x16x129, .f32⟩
  | 126 => ⟨S32x8x16x129, .f32⟩
  | 127 => ⟨S1x8x1x129, .i1⟩
  | _ => ⟨S32x8x48x64, .f32⟩

abbrev hbmTy0_1 (i : Nat) : BufTy := match i % 128 with
  | 0 => ⟨S_, .f32⟩
  | 1 => ⟨S_, .f32⟩
  | 2 => ⟨S32x8x16x129, .i1⟩
  | 3 => ⟨S32x8x16x129, .f32⟩
  | 4 => ⟨S32x8x16x129, .f32⟩
  | 5 => ⟨S_, .f32⟩
  | 6 => ⟨S32x8x16, .f32⟩
  | 7 => ⟨S32x8x16x1, .f32⟩
  | 8 => ⟨S32x8x16x129, .f32⟩
  | 9 => ⟨S32x8x16x129, .f32⟩
  | 10 => ⟨S32x8x16x129, .f32⟩
  | 11 => ⟨S_, .f32⟩
  | 12 => ⟨S32x8x16, .f32⟩
  | 13 => ⟨S32x8x16x64, .f32⟩
  | 14 => ⟨S1x32x8x16, .f32⟩
  | 15 => ⟨S1x32x8x16, .f32⟩
  | 16 => ⟨S1x32x8x16, .f32⟩
  | 17 => ⟨S3x32x8x16, .f32⟩
  | 18 => ⟨S1x32x8x16, .f32⟩
  | 19 => ⟨S1x32x8x16, .f32⟩
  | 20 => ⟨S1x32x8x16, .f32⟩
  | 21 => ⟨S3x32x8x16, .f32⟩
  | 22 => ⟨S1x32x8x16x64, .f32⟩
  | 23 => ⟨S1x32x8x16x64, .f32⟩
  | 24 => ⟨S1x32x8x16x64, .f32⟩
  | 25 => ⟨S3x32x8x16x64, .f32⟩
  | 26 => ⟨S_, .f32⟩
  | 27 => ⟨S32x8x16, .f32⟩
  | 28 => ⟨S1x32x8x16, .f32⟩
  | 29 => ⟨S3x32x8x16, .f32⟩
  | 30 => ⟨S3x32x8x16, .f32⟩
  | 31 => ⟨S3x32x8x16, .f32⟩
  | 32 => ⟨S32x8x16x64, .f32⟩
  | 33 => ⟨S3x32x8x16, .f32⟩
  | 34 => ⟨S_, .f32⟩
  | 35 => ⟨S32x8x16, .f32⟩
  | 36 => ⟨S32x8x16x1, .f32⟩
  | 37 => ⟨S32x8x16x64, .f32⟩
  | 38 => ⟨S32x8x16x64, .f32⟩
  | 39 => ⟨S32x16x8x64, .f32⟩
  | _ => ⟨S32x8x48x64, .f32⟩

abbrev hbmTy (i : Nat) : BufTy := match i / 128 with
  | 0 => hbmTy0_0 i
  | 1 => hbmTy0_1 i
  | _ => ⟨S32x8x48x64, .f32⟩

abbrev bufTy : (tb : Table) → Fin (tcTables nBuf tb) → BufTy
  | .hbm, ⟨i, _⟩ => hbmTy i
  | _, _ => ⟨S32x8x48x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_v20 : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_call3_v0 : Ref sig .tc := ⟨.hbm, 74, rfl⟩
abbrev main_v52 : Ref sig .tc := ⟨.hbm, 75, rfl⟩
abbrev main_call4_v0 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_16 : Ref sig .tc := ⟨.hbm, 113, rfl⟩
abbrev main_v80 : Ref sig .tc := ⟨.hbm, 114, rfl⟩
abbrev main_v81 : Ref sig .tc := ⟨.hbm, 115, rfl⟩
abbrev main_c_17 : Ref sig .tc := ⟨.hbm, 116, rfl⟩
abbrev main_v82 : Ref sig .tc := ⟨.hbm, 117, rfl⟩
abbrev main_v83 : Ref sig .tc := ⟨.hbm, 118, rfl⟩
abbrev main_call6_v0 : Ref sig .tc := ⟨.hbm, 119, rfl⟩
abbrev main_v84 : Ref sig .tc := ⟨.hbm, 120, rfl⟩
abbrev main_call7_v0 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_19 : Ref sig .tc := ⟨.hbm, 128, rfl⟩
abbrev main_call8_v0 : Ref sig .tc := ⟨.hbm, 129, rfl⟩
abbrev main_call8_v1 : Ref sig .tc := ⟨.hbm, 130, rfl⟩
abbrev main_call8_v2 : Ref sig .tc := ⟨.hbm, 131, rfl⟩
abbrev main_v90 : Ref sig .tc := ⟨.hbm, 132, rfl⟩
abbrev main_cst_20 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_21 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_22 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_23 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S2x6144 : Shape := ⟨2, ![2, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1x6144 : Shape := ⟨3, ![2, 1, 6144]⟩
abbrev S16384x1024 : Shape := ⟨2, ![16384, 1024]⟩
abbrev S1x1024 : Shape := ⟨2, ![1, 1024]⟩
abbrev S1x5632 : Shape := ⟨2, ![1, 5632]⟩
abbrev S32x8x5632 : Shape := ⟨3, ![32, 8, 5632]⟩
abbrev S512x1024 : Shape := ⟨2, ![512, 1024]⟩
abbrev S1x1x1024 : Shape := ⟨3, ![1, 1, 1024]⟩
abbrev S1x8x5632 : Shape := ⟨3, ![1, 8, 5632]⟩
abbrev S512x2816 : Shape := ⟨2, ![512, 2816]⟩
abbrev S8x5632 : Shape := ⟨2, ![8, 5632]⟩
abbrev S2x16x256 : Shape := ⟨3, ![2, 16, 256]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S8x256 : Shape := ⟨2, ![8, 256]⟩
abbrev S1x8x256 : Shape := ⟨3, ![1, 8, 256]⟩
abbrev S504x256 : Shape := ⟨2, ![504, 256]⟩

abbrev nBuf : Space → Nat
  | .hbm => 15
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x6144, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S2x1x6144, .f32⟩
  | .hbm, ⟨8, _⟩ => ⟨S16384x1024, .f32⟩
  | .hbm, ⟨9, _⟩ => ⟨S1x1024, .f32⟩
  | .hbm, ⟨10, _⟩ => ⟨S1024x5632, .bf16⟩
  | .hbm, ⟨11, _⟩ => ⟨S1x5632, .f32⟩
  | .hbm, ⟨12, _⟩ => ⟨S2816x1024, .bf16⟩
  | .hbm, ⟨13, _⟩ => ⟨S16384x1024, .f32⟩
  | .hbm, ⟨14, _⟩ => ⟨S32x8x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | .local _ .vmem, ⟨15, _⟩ => ⟨S1x8x5632, .f32⟩
  | .local _ .vmem, ⟨16, _⟩ => ⟨S1x8x5632, .f32⟩
  | .local _ .vmem, ⟨17, _⟩ => ⟨S512x2816, .bf16⟩
  | .local _ .vmem, ⟨18, _⟩ => ⟨S8x5632, .f32⟩
  | .local _ .vmem, ⟨19, _⟩ => ⟨S2x16x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2x8192x1024 : Shape := ⟨3, ![2, 8192, 1024]⟩
abbrev S1024 : Shape := ⟨1, ![1024]⟩
abbrev S2x6144 : Shape := ⟨2, ![2, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x5632 : Shape := ⟨3, ![2, 8192, 5632]⟩
abbrev S2x2x5632 : Shape := ⟨3, ![2, 2, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S16384x1024 : Shape := ⟨2, ![16384, 1024]⟩
abbrev S32x512x5632 : Shape := ⟨3, ![32, 512, 5632]⟩
abbrev S32x8x5632 : Shape := ⟨3, ![32, 8, 5632]⟩

abbrev nBuf : Space → Nat
  | .hbm => 88
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x6144, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S2x8192x5632, .f32⟩
  | .hbm, ⟨39, _⟩ => ⟨S_, .f32⟩
  | .hbm, ⟨40, _⟩ => ⟨S2x2x5632, .f32⟩
  | .hbm, ⟨41, _⟩ => ⟨S2x8194x5632, .f32⟩
  | .hbm, ⟨42, _⟩ => ⟨S2x8192x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S2x8192x5632, .f32⟩
  | .hbm, ⟨47, _⟩ => ⟨S2x8192x5632, .f32⟩
  | .hbm, ⟨48, _⟩ => ⟨S_, .f32⟩
  | .hbm, ⟨49, _⟩ => ⟨S2x8192x5632, .f32⟩
  | .hbm, ⟨50, _⟩ => ⟨S2x8192x5632, .f32⟩
  | .hbm, ⟨51, _⟩ => ⟨S2x8192x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S2x8192x5632, .f32⟩
  | .hbm, ⟨56, _⟩ => ⟨S2x8192x5632, .f32⟩
  | .hbm, ⟨57, _⟩ => ⟨S2x8192x5632, .f32⟩
  | .hbm, ⟨58, _⟩ => ⟨S2x8192x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S2x8192x5632, .f32⟩
  | .hbm, ⟨63, _⟩ => ⟨S2x8192x5632, .f32⟩
  | .hbm, ⟨64, _⟩ => ⟨S2x8192x5632, .f32⟩
  | .hbm, ⟨65, _⟩ => ⟨S1x1x5632, .f32⟩
  | .hbm, ⟨66, _⟩ => ⟨S2x8192x5632, .f32⟩
  | .hbm, ⟨67, _⟩ => ⟨S2x8192x5632, .f32⟩
  | .hbm, ⟨68, _⟩ => ⟨S2x8192x2816, .f32⟩
  | .hbm, ⟨69, _⟩ => ⟨S2x8192x2816, .f32⟩
  | .hbm, ⟨70, _⟩ => ⟨S2x8192x2816, .f32⟩
  | .hbm, ⟨71, _⟩ => ⟨S_, .f32⟩
  | .hbm, ⟨72, _⟩ => ⟨S2x8192x2816, .f32⟩
  | .hbm, ⟨73, _⟩ => ⟨S2x8192x2816, .f32⟩
  | .hbm, ⟨74, _⟩ => ⟨S_, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S2x8192x2816, .f32⟩
  | .hbm, ⟨79, _⟩ => ⟨S2x8192x2816, .f32⟩
  | .hbm, ⟨80, _⟩ => ⟨S2x8192x1024, .f32⟩
  | .hbm, ⟨81, _⟩ => ⟨S2x1x1024, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S16384x1024, .f32⟩
  | .hbm, ⟨86, _⟩ => ⟨S32x512x5632, .f32⟩
  | .hbm, ⟨87, _⟩ => ⟨S32x8x5632, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S2x6144 : Shape := ⟨2, ![2, 6144]⟩
abbrev S1024x5120 : Shape := ⟨2, ![1024, 5120]⟩
abbrev S1024x128 : Shape := ⟨2, ![1024, 128]⟩
abbrev S4x3072 : Shape := ⟨2, ![4, 3072]⟩
abbrev S3072 : Shape := ⟨1, ![3072]⟩
abbrev S128 : Shape := ⟨1, ![128]⟩
abbrev S2x1x6144 : Shape := ⟨3, ![2, 1, 6144]⟩
abbrev S16384x1024 : Shape := ⟨2, ![16384, 1024]⟩
abbrev S1x1024 : Shape := ⟨2, ![1, 1024]⟩
abbrev S1x3072 : Shape := ⟨2, ![1, 3072]⟩
abbrev S1x128 : Shape := ⟨2, ![1, 128]⟩
abbrev S16384x5120 : Shape := ⟨2, ![16384, 5120]⟩
abbrev S16384x128 : Shape := ⟨2, ![16384, 128]⟩
abbrev S32x8x3072 : Shape := ⟨3, ![32, 8, 3072]⟩
abbrev S128x128x128 : Shape := ⟨3, ![128, 128, 128]⟩
abbrev S512x1024 : Shape := ⟨2, ![512, 1024]⟩
abbrev S1x1x1024 : Shape := ⟨3, ![1, 1, 1024]⟩
abbrev S512x5120 : Shape := ⟨2, ![512, 5120]⟩
abbrev S512x128 : Shape := ⟨2, ![512, 128]⟩
abbrev S1x8x3072 : Shape := ⟨3, ![1, 8, 3072]⟩
abbrev S4x128x128 : Shape := ⟨3, ![4, 128, 128]⟩
abbrev S8x3072 : Shape := ⟨2, ![8, 3072]⟩
abbrev S16x256 : Shape := ⟨2, ![16, 256]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1024x256 : Shape := ⟨2, ![1024, 256]⟩
abbrev S512x256 : Shape := ⟨2, ![512, 256]⟩
abbrev S1x256 : Shape := ⟨2, ![1, 256]⟩
abbrev S8x256 : Shape := ⟨2, ![8, 256]⟩
abbrev S1x8x256 : Shape := ⟨3, ![1, 8, 256]⟩
abbrev S504x256 : Shape := ⟨2, ![504, 256]⟩

abbrev nBuf : Space → Nat
  | .hbm => 22
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x6144, .f32⟩
  | .hbm, ⟨3, _⟩ => ⟨S1024x5120, .f32⟩
  | .hbm, ⟨4, _⟩ => ⟨S1024x128, .f32⟩
  | .hbm, ⟨5, _⟩ => ⟨S4x3072, .f32⟩
  | .hbm, ⟨6, _⟩ => ⟨S3072, .f32⟩
  | .hbm, ⟨7, _⟩ => ⟨S128, .f32⟩
  | .hbm, ⟨8, _⟩ => ⟨S128, .f32⟩
  | .hbm, ⟨9, _⟩ => ⟨S2x1x6144, .f32⟩
  | .hbm, ⟨10, _⟩ => ⟨S16384x1024, .f32⟩
  | .hbm, ⟨11, _⟩ => ⟨S1x1024, .f32⟩
  | .hbm, ⟨12, _⟩ => ⟨S1024x5120, .bf16⟩
  | .hbm, ⟨13, _⟩ => ⟨S1024x128, .bf16⟩
  | .hbm, ⟨14, _⟩ => ⟨S1x3072, .f32⟩
  | .hbm, ⟨15, _⟩ => ⟨S1x128, .f32⟩
  | .hbm, ⟨16, _⟩ => ⟨S1x128, .f32⟩
  | .hbm, ⟨17, _⟩ => ⟨S16384x5120, .f32⟩
  | .hbm, ⟨18, _⟩ => ⟨S16384x128, .f32⟩
  | .hbm, ⟨19, _⟩ => ⟨S32x8x3072, .f32⟩
  | .hbm, ⟨20, _⟩ => ⟨S16384x128, .f32⟩
  | .hbm, ⟨21, _⟩ => ⟨S128x128x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5120, .bf16⟩
  | .local _ .vmem, ⟨8, _⟩ => ⟨S1024x128, .bf16⟩
  | .local _ .vmem, ⟨9, _⟩ => ⟨S4x3072, .f32⟩
  | .local _ .vmem, ⟨10, _⟩ => ⟨S1x3072, .f32⟩
  | .local _ .vmem, ⟨11, _⟩ => ⟨S1x128, .f32⟩
  | .local _ .vmem, ⟨12, _⟩ => ⟨S1x128, .f32⟩
  | .local _ .vmem, ⟨13, _⟩ => ⟨S512x5120, .f32⟩
  | .local _ .vmem, ⟨14, _⟩ => ⟨S512x5120, .f32⟩
  | .local _ .vmem, ⟨15, _⟩ => ⟨S512x128, .f32⟩
  | .local _ .vmem, ⟨16, _⟩ => ⟨S512x128, .f32⟩
  | .local _ .vmem, ⟨17, _⟩ => ⟨S1x8x3072, .f32⟩
  | .local _ .vmem, ⟨18, _⟩ => ⟨S1x8x3072, .f32⟩
  | .local _ .vmem, ⟨19, _⟩ => ⟨S512x128, .f32⟩
  | .local _ .vmem, ⟨20, _⟩ => ⟨S512x128, .f32⟩
  | .local _ .vmem, ⟨21, _⟩ => ⟨S4x128x128, .f32⟩
  | .local _ .vmem, ⟨22, _⟩ => ⟨S4x128x128, .f32⟩
  | .local _ .vmem, ⟨23, _⟩ => ⟨S8x3072, .f32⟩
  | .local _ .vmem, ⟨24, _⟩ => ⟨S16x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x5120 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S2x8192x1024 : Shape := ⟨3, ![2, 8192, 1024]⟩
abbrev S1024 : Shape := ⟨1, ![1024]⟩
abbrev S2x6144 : Shape := ⟨2, ![2, 6144]⟩
abbrev S1024x5120 : Shape := ⟨2, ![1024, 5120]⟩
abbrev S1024x128 : Shape := ⟨2, ![1024, 128]⟩
abbrev S4x3072 : Shape := ⟨2, ![4, 3072]⟩
abbrev S3072 : Shape := ⟨1, ![3072]⟩
abbrev S128 : Shape := ⟨1, ![128]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x5120 : Shape := ⟨3, ![2, 8192, 5120]⟩
abbrev S2x8192x2048 : Shape := ⟨3, ![2, 8192, 2048]⟩
abbrev S2x8192x3072 : Shape := ⟨3, ![2, 8192, 3072]⟩
abbrev S2x3x3072 : Shape := ⟨3, ![2, 3, 3072]⟩
abbrev S2x8195x3072 : Shape := ⟨3, ![2, 8195, 3072]⟩
abbrev S1x3072 : Shape := ⟨2, ![1, 3072]⟩
abbrev S1x1x3072 : Shape := ⟨3, ![1, 1, 3072]⟩
abbrev S2x8192x128 : Shape := ⟨3, ![2, 8192, 128]⟩
abbrev S1x1x128 : Shape := ⟨3, ![1, 1, 128]⟩
abbrev S128x128x128 : Shape := ⟨3, ![128, 128, 128]⟩
abbrev S16384x5120 : Shape := ⟨2, ![16384, 5120]⟩
abbrev S16384x128 : Shape := ⟨2, ![16384, 128]⟩
abbrev S32x512x3072 : Shape := ⟨3, ![32, 512, 3072]⟩
abbrev S32x8x3072 : Shape := ⟨3, ![32, 8, 3072]⟩

abbrev nBuf : Space → Nat
  | .hbm => 125
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x6144, .f32⟩
  | .hbm, ⟨3, _⟩ => ⟨S1024x5120, .f32⟩
  | .hbm, ⟨4, _⟩ => ⟨S1024x128, .f32⟩
  | .hbm, ⟨5, _⟩ => ⟨S4x3072, .f32⟩
  | .hbm, ⟨6, _⟩ => ⟨S3072, .f32⟩
  | .hbm, ⟨7, _⟩ => ⟨S128, .f32⟩
  | .hbm, ⟨8, _⟩ => ⟨S128, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S2x1x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x5120, .f32⟩
  | .hbm, ⟨41, _⟩ => ⟨S2x8192x2048, .f32⟩
  | .hbm, ⟨42, _⟩ => ⟨S2x8192x3072, .f32⟩
  | .hbm, ⟨43, _⟩ => ⟨S_, .f32⟩
  | .hbm, ⟨44, _⟩ => ⟨S2x3x3072, .f32⟩
  | .hbm, ⟨45, _⟩ => ⟨S2x8195x3072, .f32⟩
  | .hbm, ⟨46, _⟩ => ⟨S2x8192x3072, .f32⟩
  | .hbm, ⟨47, _⟩ => ⟨S1x3072, .f32⟩
  | .hbm, ⟨48, _⟩ => ⟨S3072, .f32⟩
  | .hbm, ⟨49, _⟩ => ⟨S1x1x3072, .f32⟩
  | .hbm, ⟨50, _⟩ => ⟨S2x8192x3072, .f32⟩
  | .hbm, ⟨51, _⟩ => ⟨S2x8192x3072, .f32⟩
  | .hbm, ⟨52, _⟩ => ⟨S_, .f32⟩
  | .hbm, ⟨53, _⟩ => ⟨S2x8192x3072, .f32⟩
  | .hbm, ⟨54, _⟩ => ⟨S2x8192x3072, .f32⟩
  | .hbm, ⟨55, _⟩ => ⟨S2x8192x3072, .f32⟩
  | .hbm, ⟨56, _⟩ => ⟨S1x3072, .f32⟩
  | .hbm, ⟨57, _⟩ => ⟨S3072, .f32⟩
  | .hbm, ⟨58, _⟩ => ⟨S1x1x3072, .f32⟩
  | .hbm, ⟨59, _⟩ => ⟨S2x8192x3072, .f32⟩
  | .hbm, ⟨60, _⟩ => ⟨S2x8192x3072, .f32⟩
  | .hbm, ⟨61, _⟩ => ⟨S2x8192x3072, .f32⟩
  | .hbm, ⟨62, _⟩ => ⟨S2x8192x3072, .f32⟩
  | .hbm, ⟨63, _⟩ => ⟨S1x3072, .f32⟩
  | .hbm, ⟨64, _⟩ => ⟨S3072, .f32⟩
  | .hbm, ⟨65, _⟩ => ⟨S1x1x3072, .f32⟩
  | .hbm, ⟨66, _⟩ => ⟨S2x8192x3072, .f32⟩
  | .hbm, ⟨67, _⟩ => ⟨S2x8192x3072, .f32⟩
  | .hbm, ⟨68, _⟩ => ⟨S2x8192x3072, .f32⟩
  | .hbm, ⟨69, _⟩ => ⟨S2x8192x3072, .f32⟩
  | .hbm, ⟨70, _⟩ => ⟨S1x3072, .f32⟩
  | .hbm, ⟨71, _⟩ => ⟨S3072, .f32⟩
  | .hbm, ⟨72, _⟩ => ⟨S1x1x3072, .f32⟩
  | .hbm, ⟨73, _⟩ => ⟨S2x8192x3072, .f32⟩
  | .hbm, ⟨74, _⟩ => ⟨S2x8192x3072, .f32⟩
  | .hbm, ⟨75, _⟩ => ⟨S2x8192x3072, .f32⟩
  | .hbm, ⟨76, _⟩ => ⟨S1x1x3072, .f32⟩
  | .hbm, ⟨77, _⟩ => ⟨S2x8192x3072, .f32⟩
  | .hbm, ⟨78, _⟩ => ⟨S2x8192x3072, .f32⟩
  | .hbm, ⟨79, _⟩ => ⟨S2x8192x128, .f32⟩
  | .hbm, ⟨80, _⟩ => ⟨S1x1x128, .f32⟩
  | .hbm, ⟨81, _⟩ => ⟨S2x8192x128, .f32⟩
  | .hbm, ⟨82, _⟩ => ⟨S2x8192x128, .f32⟩
  | .hbm, ⟨83, _⟩ => ⟨S_, .f32⟩
  | .hbm, ⟨84, _⟩ => ⟨S2x8192x128, .f32⟩
  | .hbm, ⟨85, _⟩ => ⟨S2x8192x128, .f32⟩
  | .hbm, ⟨86, _⟩ => ⟨S2x8192x128, .f32⟩
  | .hbm, ⟨87, _⟩ => ⟨S2x8192x128, .f32⟩
  | .hbm, ⟨88, _⟩ => ⟨S2x8192x128, .i1⟩
  | .hbm, ⟨89, _⟩ => ⟨S2x8192x128, .f32⟩
  | .hbm, ⟨90, _⟩ => ⟨S2x8192x128, .f32⟩
  | .hbm, ⟨91, _⟩ => ⟨S2x8192x128, .f32⟩
  | .hbm, ⟨92, _⟩ => ⟨S2x8192x128, .f32⟩
  | .hbm, ⟨93, _⟩ => ⟨S2x8192x128, .f32⟩
  | .hbm, ⟨94, _⟩ => ⟨S2x8192x128, .f32⟩
  | .hbm, ⟨95, _⟩ => ⟨S2x8192x128, .f32⟩
  | .hbm, ⟨96, _⟩ => ⟨S2x8192x128, .f32⟩
  | .hbm, ⟨97, _⟩ => ⟨S128, .f32⟩
  | .hbm, ⟨98, _⟩ => ⟨S128, .f32⟩
  | .hbm, ⟨99, _⟩ => ⟨S1x1x128, .f32⟩
  | .hbm, ⟨100, _⟩ => ⟨S2x8192x128, .f32⟩
  | .hbm, ⟨101, _⟩ => ⟨S2x8192x128, .f32⟩
  | .hbm, ⟨102, _⟩ => ⟨S128x128x128, .f32⟩
  | .hbm, ⟨103, _⟩ => ⟨S_, .f32⟩
  | .hbm, ⟨104, _⟩ => ⟨S_, .f32⟩
  | .hbm, ⟨105, _⟩ => ⟨S128x128x128, .f32⟩
  | .hbm, ⟨106, _⟩ => ⟨S_, .f32⟩
  | .hbm, ⟨107, _⟩ => ⟨S128x128x128, .f32⟩
  | .hbm, ⟨108, _⟩ => ⟨S128x128x128, .f32⟩
  | .hbm, ⟨109, _⟩ => ⟨S2x8192x3072, .f32⟩
  | .hbm, ⟨110, _⟩ => ⟨S2x8192x3072, .f32⟩
  | .hbm, ⟨111, _⟩ => ⟨S_, .f32⟩
  | .hbm, ⟨112, _⟩ => ⟨S2x8192x3072, .f32⟩
  | .hbm, ⟨113, _⟩ => ⟨S2x8192x3072, .f32⟩
  | .hbm, ⟨114, _⟩ => ⟨S_, .f32⟩
  | .hbm, ⟨115, _⟩ => ⟨S2x8192x3072, .f32⟩
  | .hbm, ⟨116, _⟩ => ⟨S2x8192x3072, .f32⟩
  | .hbm, ⟨117, _⟩ => ⟨S2x8192x3072, .f32⟩
  | .hbm, ⟨118, _⟩ => ⟨S2x8192x5120, .f32⟩
  | .hbm, ⟨119, _⟩ => ⟨S16384x5120, .f32⟩
  | .hbm, ⟨120, _⟩ => ⟨S16384x128, .f32⟩
  | .hbm, ⟨121, _⟩ => ⟨S32x512x3072, .f32⟩
  | .hbm, ⟨122, _⟩ => ⟨S32x8x3072, .f32⟩
  | .hbm, ⟨123, _⟩ => ⟨S16384x128, .f32⟩
  | .hbm, ⟨124, _⟩ => ⟨S128x128x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call1_call0_cst : Ref sig .tc := ⟨.hbm, 103, rfl⟩
abbrev main_call1_call0_v0 : Ref sig .tc := ⟨.hbm, 104, rfl⟩
abbrev main_v75 : Ref sig .tc := ⟨.hbm, 105, rfl⟩
abbrev main_cst_5 : Ref sig .tc := ⟨.hbm, 106, rfl⟩
abbrev main_v76 : Ref sig .tc := ⟨.hbm, 107, rfl⟩
abbrev main_v77 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]
-- ==== Proof.RowMath.lean ====
/- The arithmetic of one attention row over the extended reals: a softmax row computed with base-2
   exponentials over a masked superset of the keys, from scores scaled by `1 / log 2`, is the row
   computed with natural exponentials over the keys themselves. -/
module

public import Idealize.ShloMosaic.Lib.Pointwise

@[expose] public section

noncomputable section

namespace Cert.RowMath

open Idealize.ShloMosaic

/-- The factor between a base-2 exponent and a natural one. -/
def lg : EReal := (((Real.log 2)⁻¹ : ℝ) : EReal)

theorem inv_log_pos : (0 : ℝ) < (Real.log 2)⁻¹ := inv_pos.2 (Real.log_pos (by norm_num))

theorem lg_nonneg : (0 : EReal) ≤ lg := EReal.coe_nonneg.2 inv_log_pos.le

theorem lg_ne_top : lg ≠ ⊤ := EReal.coe_ne_top _

/-- A base-2 exponential of a scaled exponent is the natural exponential. -/
theorem exp2_lg (x : EReal) : Ideal.exp2 (lg * x) = Ideal.exp x := by
  induction x using EReal.rec with
  | bot => rw [lg, EReal.coe_mul_bot_of_pos inv_log_pos]; rfl
  | top => rw [lg, EReal.coe_mul_top_of_pos inv_log_pos]; rfl
  | coe r =>
    rw [lg, ← EReal.coe_mul, Ideal.exp2_coe, Ideal.exp_coe]
    congr 1
    have h2 : Real.log 2 ≠ 0 := (Real.log_pos (by norm_num)).ne'
    show (2 : ℝ) ^ ((Real.log 2)⁻¹ * r) = _
    rw [Real.rpow_def_of_pos (by norm_num), ← mul_assoc, mul_inv_cancel₀ h2, one_mul]

/-- A nonnegative real factor distributes over a sum of extended reals. -/
theorem coe_mul_sum {ι : Type} (S : Finset ι) (a : EReal) (ha : 0 ≤ a) (ht : a ≠ ⊤) (f : ι → EReal) :
    a * ∑ i ∈ S, f i = ∑ i ∈ S, a * f i := by
  classical
  induction S using Finset.induction_on with
  | empty => simp
  | insert i S hi ih =>
    rw [Finset.sum_insert hi, Finset.sum_insert hi, EReal.left_distrib_of_nonneg_of_ne_top ha ht, ih]

/-- The difference of two scaled scores is the scaled difference. -/
theorem lg_mul_sub (x y : EReal) : lg * x - lg * y = lg * (x - y) := by
  rw [sub_eq_add_neg, sub_eq_add_neg, EReal.left_distrib_of_nonneg_of_ne_top lg_nonneg lg_ne_top, mul_neg]

/-- Nothing is below `⊥`: subtracting from it leaves it. -/
theorem bot_sub' (x : EReal) : (⊥ : EReal) - x = ⊥ := by
  rw [sub_eq_add_neg, EReal.bot_add]

/-- The scaled maximum is the maximum of the scaled. -/
theorem lg_mul_max (x y : EReal) : max (lg * x) (lg * y) = lg * max x y :=
  ((show Monotone fun z : EReal => lg * z from fun _ _ h => mul_le_mul_of_nonneg_left h lg_nonneg).map_max).symm

/-- A dot product against a query scaled by `1/8 · (1 / log 2)` is the scaled dot product over 8. -/
theorem score_scale {n : ℕ} (q k : Fin n → EReal) :
    ∑ e, q e * (((1 / 8) * (Real.log 2)⁻¹ : ℝ) : EReal) * k e
      = lg * ((∑ e, q e * k e) * ((1 / 8 : ℝ) : EReal)) := by
  have h8 : (0 : EReal) ≤ ((1 / 8 : ℝ) : EReal) := EReal.coe_nonneg.2 (by norm_num)
  have hb : ((1 / 8 : ℝ) : EReal) ≠ ⊤ := EReal.coe_ne_top _
  rw [mul_comm _ ((1 / 8 : ℝ) : EReal), coe_mul_sum _ _ h8 hb, coe_mul_sum _ _ lg_nonneg lg_ne_top]
  refine Finset.sum_congr rfl fun e _ => ?_
  rw [EReal.coe_mul, ← lg]
  ac_rfl

section Row

variable {ι κ : Type} [Fintype ι] [Nonempty ι] [Fintype κ] (φ : ι → κ) (hφ : Function.Injective φ)
  (s : ι → EReal) (S : κ → EReal)
  (hin : ∀ i, S (φ i) = lg * s i) (hout : ∀ k, k ∉ Set.range φ → S k = ⊥)

include hin hout in
/-- The maximum over the masked superset is the scaled maximum over the keys. -/
theorem fold_max : Finset.univ.fold max ⊥ S = lg * Finset.univ.fold max ⊥ s := by
  show Finset.univ.sup S = lg * Finset.univ.sup s
  apply le_antisymm
  · refine Finset.sup_le fun k _ => ?_
    by_cases hk : k ∈ Set.range φ
    · obtain ⟨i, rfl⟩ := hk
      rw [hin]
      exact mul_le_mul_of_nonneg_left (Finset.le_sup (f := s) (Finset.mem_univ i)) lg_nonneg
    · rw [hout k hk]; exact bot_le
  · obtain ⟨i, -, hi⟩ := Finset.exists_mem_eq_sup Finset.univ Finset.univ_nonempty s
    rw [hi, ← hin i]
    exact Finset.le_sup (f := S) (Finset.mem_univ _)

include hφ hin hout in
/-- A weighted sum of the base-2 probabilities over the masked superset is the weighted sum of the
    natural ones over the keys. -/
theorem sum_exp (M : EReal) (v : κ → EReal) :
    ∑ k, Ideal.exp2 (S k - lg * M) * v k = ∑ i, Ideal.exp (s i - M) * v (φ i) := by
  symm
  refine Fintype.sum_of_injective φ hφ _ _ (fun k hk => ?_) fun i => ?_
  · rw [hout k hk, bot_sub', Ideal.exp2_bot, zero_mul]
  · rw [hin, lg_mul_sub, exp2_lg]

include hφ hin hout in
/-- The sum of the base-2 probabilities over the masked superset is that of the natural ones. -/
theorem sum_exp_one (M : EReal) :
    ∑ k, Ideal.exp2 (S k - lg * M) = ∑ i, Ideal.exp (s i - M) := by
  simpa using sum_exp φ hφ s S hin hout M fun _ => 1

end Row

/-- A maximum over a disjoint union is the maximum of the two. -/
theorem fold_max_sum {α β : Type} [Fintype α] [Fintype β] (f : α ⊕ β → EReal) :
    Finset.univ.fold max ⊥ f
      = max (Finset.univ.fold max ⊥ fun a => f (.inl a)) (Finset.univ.fold max ⊥ fun b => f (.inr b)) := by
  show Finset.univ.sup f = max (Finset.univ.sup _) (Finset.univ.sup _)
  apply le_antisymm
  · refine Finset.sup_le fun k _ => ?_
    rcases k with a | b
    · exact le_max_of_le_left (Finset.le_sup (f := fun a => f (.inl a)) (Finset.mem_univ a))
    · exact le_max_of_le_right (Finset.le_sup (f := fun b => f (.inr b)) (Finset.mem_univ b))
  · exact max_le (Finset.sup_le fun a _ => Finset.le_sup (f := f) (Finset.mem_univ _))
      (Finset.sup_le fun b _ => Finset.le_sup (f := f) (Finset.mem_univ _))

/-- The single-precision word of −∞. -/
theorem negInf : Ideal.ofBits .f32 0xFF800000#32 = ⊥ := by simp [Ideal.ofBits, Ideal.ieee]

/-- The single-precision word of 1/8. -/
theorem eighth : Ideal.ofBits .f32 0x3E000000#32 = ((1 / 8 : ℝ) : EReal) := by
  simp [Ideal.ofBits, Ideal.ieee, -EReal.coe_mul]
  norm_num

end Cert.RowMath

end
-- ==== Proof.RowKeys.lean ====
/- The keys of one decode row: which positions of the two stretches a kernel scans (the last `win`
   cached positions, then one tile of new positions) are the `129` keys of the dilated window, and
   what the masked scan of the two stretches then adds up to. -/
module

public import proofs.«01_k».proof.Proof.RowMath

@[expose] public section

noncomputable section

namespace Cert.RowKeys

open Idealize.ShloMosaic Cert.RowMath

variable {win dil off t : ℕ}

/-- A cached position `p` of the stretch is a key of step `t`. -/
def CacheKey (win dil t p : ℕ) : Prop := t ≤ p ∧ dil ∣ win + t - p

/-- A position `u` of the tile of new rows is a key of step `t` of the sequence whose rows start at `off`. -/
def NewKey (dil off t u : ℕ) : Prop := off ≤ u ∧ u ≤ off + t ∧ dil ∣ off + t - u

/-- Where key `j` (at distance `dil * j` from the query) lies in the two stretches. -/
def key (hw : win = dil * 128) (ht : t < 8) (ho : off ≤ 120) (j : Fin 129) : Fin win ⊕ Fin 128 :=
  if h : dil * j.val ≤ t then .inr ⟨off + (t - dil * j.val), by omega⟩
  else .inl ⟨win + t - dil * j.val, by
    have := Nat.mul_le_mul_left dil (Nat.le_of_lt_succ j.isLt); omega⟩

variable (hw : win = dil * 128) (hd : 0 < dil) (ht : t < 8) (ho : off ≤ 120)

include hd in
theorem key_injective : Function.Injective (key hw ht ho) := by
  intro i j h
  unfold key at h
  have hi := Nat.mul_le_mul_left dil (Nat.le_of_lt_succ i.isLt)
  have hj := Nat.mul_le_mul_left dil (Nat.le_of_lt_succ j.isLt)
  apply Fin.ext
  apply Nat.eq_of_mul_eq_mul_left hd
  split at h <;> split at h <;> simp at h <;> omega

theorem key_inl {p : Fin win} (h : CacheKey win dil t p.val) :
    .inl p ∈ Set.range (key hw ht ho) := by
  obtain ⟨h1, j, hj⟩ := h
  have hp := p.isLt
  have hj' : j ≤ 128 := by
    by_contra hlt
    have := Nat.mul_le_mul_left dil (Nat.succ_le_of_lt (not_le.1 hlt))
    have : dil * 129 = dil * 128 + dil := by ring
    have : 0 < dil := by rcases Nat.eq_zero_or_pos dil with h0 | h0 <;> [(subst h0; omega); exact h0]
    simp only [Nat.succ_eq_add_one, Nat.reduceAdd] at *
    omega
  refine ⟨⟨j, by omega⟩, ?_⟩
  unfold key
  rw [dif_neg (by show ¬ dil * j ≤ t; omega)]
  congr 1
  apply Fin.ext
  show win + t - dil * j = p.val
  omega

include hd in
theorem key_inr {u : Fin 128} (h : NewKey dil off t u.val) :
    .inr u ∈ Set.range (key hw ht ho) := by
  obtain ⟨h1, h2, j, hj⟩ := h
  have hj' : j ≤ dil * j := Nat.le_mul_of_pos_left j hd
  refine ⟨⟨j, by omega⟩, ?_⟩
  unfold key
  rw [dif_pos (by show dil * j ≤ t; omega)]
  congr 1
  apply Fin.ext
  show off + (t - dil * j) = u.val
  omega

section Group

variable (s V : Fin 129 → EReal) (sc vc : Fin win → EReal) (sn vn : Fin 128 → EReal)
  (hc : ∀ (j : Fin 129) (p : Fin win), t < dil * j.val → p.val = win + t - dil * j.val →
    CacheKey win dil t p.val → sc p = lg * s j ∧ vc p = V j)
  (hn : ∀ (j : Fin 129) (u : Fin 128), dil * j.val ≤ t → u.val = off + (t - dil * j.val) →
    NewKey dil off t u.val → sn u = lg * s j ∧ vn u = V j)
  (hc' : ∀ p : Fin win, ¬ CacheKey win dil t p.val → sc p = ⊥)
  (hn' : ∀ u : Fin 128, ¬ NewKey dil off t u.val → sn u = ⊥)

include hc hn in
/-- At a key the joined scores and values are the key's own. -/
theorem at_key (j : Fin 129) :
    Sum.elim sc sn (key hw ht ho j) = lg * s j ∧ Sum.elim vc vn (key hw ht ho j) = V j := by
  have hj := Nat.mul_le_mul_left dil (Nat.le_of_lt_succ j.isLt)
  unfold key
  split
  case isTrue h =>
    exact hn j _ h rfl ⟨by simp, by simp, ⟨j.val, by simp; omega⟩⟩
  case isFalse h =>
    exact hc j _ (by omega) rfl ⟨by simp; omega, ⟨j.val, by simp; omega⟩⟩

include hd hc' hn' in
/-- Off the keys the joined scores are `⊥`. -/
theorem off_key (k : Fin win ⊕ Fin 128) (hk : k ∉ Set.range (key hw ht ho)) : Sum.elim sc sn k = ⊥ := by
  rcases k with p | u
  · exact hc' p fun h => hk (key_inl hw ht ho h)
  · exact hn' u fun h => hk (key_inr hw hd ht ho h)

include hw hd ht ho hc hn hc' hn' in
/-- The masked scan of the two stretches gives the row over the keys: its maximum (scaled), its
    normalizer and its weighted sum of values. -/
theorem group :
    max (Finset.univ.fold max ⊥ sc) (Finset.univ.fold max ⊥ sn) = lg * Finset.univ.fold max ⊥ s
    ∧ (∀ M, (∑ p, Ideal.exp2 (sc p - lg * M)) + (∑ u, Ideal.exp2 (sn u - lg * M)) = ∑ j, Ideal.exp (s j - M))
    ∧ (∀ M, (∑ p, Ideal.exp2 (sc p - lg * M) * vc p) + (∑ u, Ideal.exp2 (sn u - lg * M) * vn u)
        = ∑ j, Ideal.exp (s j - M) * V j) := by
  have hin := fun j => (at_key hw ht ho s V sc vc sn vn hc hn j).1
  have hv := fun j => (at_key hw ht ho s V sc vc sn vn hc hn j).2
  have hout := off_key hw hd ht ho sc sn hc' hn'
  have hinj := key_injective hw hd ht ho
  refine ⟨?_, fun M => ?_, fun M => ?_⟩
  · rw [← fold_max (key hw ht ho) s (Sum.elim sc sn) hin hout, fold_max_sum]; rfl
  · rw [← sum_exp_one (key hw ht ho) hinj s (Sum.elim sc sn) hin hout M, Fintype.sum_sum_type]; rfl
  · have := sum_exp (key hw ht ho) hinj s (Sum.elim sc sn) hin hout M (Sum.elim vc vn)
    rw [Fintype.sum_sum_type] at this
    simp only [hv] at this
    exact this

end Group

/-- The merge of three groups' rows from base-2 weights on scaled maxima is their merge from natural
    weights. -/
theorem merge (m l o : Fin 3 → EReal) (M : EReal) (hM : M = Finset.univ.fold max ⊥ m) :
    Ideal.div
      (Ideal.exp2 (lg * m 0 - max (max (lg * m 0) (lg * m 1)) (lg * m 2)) * o 0
        + Ideal.exp2 (lg * m 1 - max (max (lg * m 0) (lg * m 1)) (lg * m 2)) * o 1
        + Ideal.exp2 (lg * m 2 - max (max (lg * m 0) (lg * m 1)) (lg * m 2)) * o 2)
      (Ideal.exp2 (lg * m 0 - max (max (lg * m 0) (lg * m 1)) (lg * m 2)) * l 0
        + Ideal.exp2 (lg * m 1 - max (max (lg * m 0) (lg * m 1)) (lg * m 2)) * l 1
        + Ideal.exp2 (lg * m 2 - max (max (lg * m 0) (lg * m 1)) (lg * m 2)) * l 2)
      = Ideal.div (∑ g, Ideal.exp (m g - M) * o g) (∑ g, Ideal.exp (m g - M) * l g) := by
  have h3 : max (max (lg * m 0) (lg * m 1)) (lg * m 2) = lg * M := by
    rw [lg_mul_max, lg_mul_max, hM]
    congr 1
    show _ = Finset.univ.sup m
    apply le_antisymm
    · exact max_le (max_le (Finset.le_sup (f := m) (Finset.mem_univ 0)) (Finset.le_sup (f := m) (Finset.mem_univ 1)))
        (Finset.le_sup (f := m) (Finset.mem_univ 2))
    · refine Finset.sup_le fun g _ => ?_
      match g with
      | 0 => exact le_max_of_le_left (le_max_left _ _)
      | 1 => exact le_max_of_le_left (le_max_right _ _)
      | 2 => exact le_max_right _ _
  simp only [h3, lg_mul_sub, exp2_lg, Fin.sum_univ_three]

end Cert.RowKeys

end
-- ==== Proof.DecSpec.lean ====
/- The dilated decode attention, element by element: what one row of the reference scores, sums and
   merges. Both programs are read to these functions. -/
module

public import proofs.«01_k».proof.Proof.RowKeys
public import Idealize.ShloMosaic.Lib.Pointwise

@[expose] public section

noncomputable section

namespace Cert.DecSpec

open Idealize.ShloMosaic

/-- New rows of a batch: `[batch, step, head, channel]`. -/
abbrev New := (⟨4, ![32, 8, 48, 64]⟩ : Shape).Idx → EReal
/-- Cached rows: `[batch, position, head, channel]`. -/
abbrev Cache := (⟨4, ![32, 2048, 48, 64]⟩ : Shape).Idx → EReal

/-- Row `j` of step `t`'s dilated window, at distance `dil * j`: a new row, or a cached one. -/
def row (n : New) (k : Cache) (dil : ℕ) (b : Fin 32) (t : Fin 8) (h : Fin 48) (j : Fin 129) (e : Fin 64) : EReal :=
  if hj : dil * j.val ≤ t.val then n (ix4 b (⟨t.val - dil * j.val, by have := t.isLt; omega⟩ : Fin 8) h e)
  else k (ix4 b (⟨2048 + t.val - dil * j.val, by have := t.isLt; omega⟩ : Fin 2048) h e)

/-- The score of key `j`. -/
def score (q n : New) (k : Cache) (dil : ℕ) (b : Fin 32) (t : Fin 8) (h : Fin 48) (j : Fin 129) : EReal :=
  (∑ e, q (ix4 b t h e) * row n k dil b t h j e) * ((1 / 8 : ℝ) : EReal)

/-- The largest score of a row. -/
def rowMax (s : Fin 129 → EReal) : EReal := Finset.univ.fold max ⊥ s
/-- The row's normalizer. -/
def rowSum (s : Fin 129 → EReal) : EReal := ∑ j, Ideal.exp (s j - rowMax s)
/-- The row's weighted sum of values. -/
def rowOut (s v : Fin 129 → EReal) : EReal := ∑ j, Ideal.exp (s j - rowMax s) * v j

/-- The rows of the three groups merged by their maxima. -/
def mergeRows (m l o : Fin 3 → EReal) : EReal :=
  Ideal.div (∑ g, Ideal.exp (m g - Finset.univ.fold max ⊥ m) * o g)
    (∑ g, Ideal.exp (m g - Finset.univ.fold max ⊥ m) * l g)

/-- The dilation of group `g`. -/
def dil : Fin 3 → ℕ := ![1, 4, 16]

/-- Head `h` of group `g`. -/
def headOf (g : Fin 3) (h : Fin 16) : Fin 48 := ⟨16 * g.val + h.val, by omega⟩

/-- The attention's result at one element. -/
def out (q kn vn : New) (kc vc : Cache) (b : Fin 32) (h : Fin 16) (t : Fin 8) (e : Fin 64) : EReal :=
  mergeRows (fun g => rowMax (score q kn kc (dil g) b t (headOf g h)))
    (fun g => rowSum (score q kn kc (dil g) b t (headOf g h)))
    (fun g => rowOut (score q kn kc (dil g) b t (headOf g h)) fun j => row vn vc (dil g) b t (headOf g h) j e)

end Cert.DecSpec

end
-- ==== Proof.RefDec.lean ====
/- The reference's decode attention read at an element. -/
module

public import proofs.«01_k».proof.Proof.DecSpec
public import proofs.«01_k».proof.Proof.Gen.ReferenceIdeal.Read

@[expose] public section

set_option maxRecDepth 16384

noncomputable section

namespace Cert.RefDec

open Cert.ReferenceIdeal Cert.ReferenceIdeal.Gen Cert.ReferenceIdeal.Read Idealize.ShloMosaic
open Idealize.ShloMosaic.StableHlo Cert.DecSpec

/-- The gather along the positions, read at an element. -/
theorem gather_read {w : ℕ} (x : S32x2056x16x64.Idx → EReal) (idx : IVec S8x129x1 w)
    (b : Fin 32) (t : Fin 8) (j : Fin 129) (h : Fin 16) (e : Fin 64) (p : Fin 2056)
    (hp : (idx (ix3 t j (0 : Fin 1))).toInt.toNat = p.val) :
    Host.gather gather_S32x2056x16x64_S8x129x1_S32x8x129x16x64_034_1_n_n_1_2_3211664 x idx (ix5 b t j h e)
      = x (ix4 b p h e) := by
  have hi : gather_S32x2056x16x64_S8x129x1_S32x8x129x16x64_034_1_n_n_1_2_3211664.siIdx (ix5 b t j h e) ⟨0, by decide⟩
      = ix3 t j (0 : Fin 1) := by
    funext a
    match a with
    | ⟨0, _⟩ => rfl
    | ⟨1, _⟩ => rfl
    | ⟨2, _⟩ => rfl
  unfold Host.gather
  congr 1
  funext a
  apply Fin.ext
  match a with
  | ⟨0, _⟩ =>
    show 0 + 0 + b.val = b.val
    omega
  | ⟨1, _⟩ =>
    show min (idx (gather_S32x2056x16x64_S8x129x1_S32x8x129x16x64_034_1_n_n_1_2_3211664.siIdx (ix5 b t j h e) ⟨0, by decide⟩)).toInt.toNat
      (2056 - 1) + 0 + 0 = p.val
    rw [hi, hp]
    omega
  | ⟨2, _⟩ =>
    show 0 + 0 + h.val = h.val
    omega
  | ⟨3, _⟩ =>
    show 0 + 0 + e.val = e.val
    omega

/-- One position of the cached rows followed by the new ones, at distance `dil * j`, is the window's row. -/
theorem row_read (n : New) (k : Cache) (dil : ℕ) (b : Fin 32) (t : Fin 8) (h : Fin 48) (j : Fin 129) (e : Fin 64)
    (p : ℕ) (hp : p = 2048 + t.val - dil * j.val) (hj : dil * j.val ≤ 2048) (hc : p - 2048 < 8) :
    (if hl : p < 2048 then k (ix4 b (⟨p, hl⟩ : Fin 2048) h e) else n (ix4 b (⟨p - 2048, hc⟩ : Fin 8) h e)) = row n k dil b t h j e := by
  subst hp
  unfold row
  by_cases hl : dil * j.val ≤ t.val
  · rw [dif_neg (by omega), dif_pos hl]
    congr 3
    omega
  · rw [dif_pos (by omega), dif_neg hl]

variable (x0 x1 x2 : New) (x3 x4 : Cache)

/-! Group 0: dilation 1. -/

theorem pos_0 : ∀ (t : Fin 8) (j : Fin 129), (val_main_v19 (F := Ideal) (ix2 t j)).toInt.toNat = 2048 + t.val - 1 * j.val := by
  pointwise [val_main_v19, val_main_v18, val_main_v15, val_main_c_2, val_main_v14, val_main_v13, val_main_v12, val_main_v11, val_main_c_0, val_main_v10, val_main_v9, val_main_v8, val_main_v7, val_main_c, val_main_v6, val_main_v5]
  decide +kernel

theorem mask_0 : ∀ (t : Fin 8) (j : Fin 129), val_main_v17 (F := Ideal) (ix2 t j) = 1#1 := by
  pointwise [val_main_v17, val_main_v16, val_main_c_1, val_main_v15, val_main_v14, val_main_v13, val_main_v12, val_main_v11, val_main_c_0, val_main_v10, val_main_v9, val_main_v8, val_main_v7, val_main_c, val_main_v6, val_main_v5]
  decide +kernel

theorem key_0 (b : Fin 32) (t : Fin 8) (j : Fin 129) (h : Fin 16) (e : Fin 64) :
    val_main_v20 (F := Ideal) x1 x3 (ix5 b t j h e) = row x1 x3 1 b t (headOf 0 h) j e := by
  have hj := j.isLt
  have ht := t.isLt
  unfold val_main_v20
  rw [gather_read _ _ b t j h e ⟨2048 + t.val - j.val, by omega⟩ (by
    pointwise [val_main_call0_v0]
    exact (pos_0 t j).trans (by omega))]
  pointwise [val_main_v3, val_main_v0]
  refine Eq.trans ?_ (row_read x1 x3 1 b t (headOf 0 h) j e (2048 + t.val - j.val) (by omega) (by omega) (by omega))
  congr! 4 <;> first | exact Fin.ext (by simp [headOf]) | simp [headOf]

theorem value_0 (b : Fin 32) (t : Fin 8) (j : Fin 129) (h : Fin 16) (e : Fin 64) :
    val_main_v21 (F := Ideal) x2 x4 (ix5 b t j h e) = row x2 x4 1 b t (headOf 0 h) j e := by
  have hj := j.isLt
  have ht := t.isLt
  unfold val_main_v21
  rw [gather_read _ _ b t j h e ⟨2048 + t.val - j.val, by omega⟩ (by
    pointwise [val_main_call1_v0]
    exact (pos_0 t j).trans (by omega))]
  pointwise [val_main_v4, val_main_v1]
  refine Eq.trans ?_ (row_read x2 x4 1 b t (headOf 0 h) j e (2048 + t.val - j.val) (by omega) (by omega) (by omega))
  congr! 4 <;> first | exact Fin.ext (by simp [headOf]) | simp [headOf]

theorem score_0 (b : Fin 32) (t : Fin 8) (h : Fin 16) (j : Fin 129) :
    val_main_v26 (F := Ideal) x0 x1 x3 (ix4 b t h j) = score x0 x1 x3 1 b t (headOf 0 h) j := by
  pointwise [val_main_v26, val_main_v24, val_main_v23, val_main_cst, val_main_v22, val_main_v2, val_main_call2_v1, val_main_v25]
  rw [mask_0]
  unfold score
  rw [RowMath.eighth]
  show (_ : EReal) = _
  refine congrArg (· * _) (Finset.sum_congr rfl fun e _ => ?_)
  rw [key_0 x1 x3 b t j h e]
  congr 3 <;> exact Fin.ext (by simp [headOf])

theorem max_0 (b : Fin 32) (t : Fin 8) (h : Fin 16) :
    val_main_v27 (F := Ideal) x0 x1 x3 (ix3 b t h) = rowMax (score x0 x1 x3 1 b t (headOf 0 h)) := by
  pointwise [val_main_v27, val_main_cst_4]
  simp only [score_0, RowMath.negInf]
  rfl

theorem sum_0 (b : Fin 32) (t : Fin 8) (h : Fin 16) :
    val_main_v32 (F := Ideal) x0 x1 x3 (ix3 b t h) = rowSum (score x0 x1 x3 1 b t (headOf 0 h)) := by
  pointwise [val_main_v32, val_main_cst_5, val_main_v31, val_main_v30, val_main_v29, val_main_v28]
  simp only [score_0, max_0]
  rfl

theorem out_0 (b : Fin 32) (t : Fin 8) (h : Fin 16) (e : Fin 64) :
    val_main_v33 (F := Ideal) x0 x1 x2 x3 x4 (ix4 b t h e)
      = rowOut (score x0 x1 x3 1 b t (headOf 0 h)) fun j => row x2 x4 1 b t (headOf 0 h) j e := by
  pointwise [val_main_v33, val_main_v31, val_main_v30, val_main_v29, val_main_v28]
  simp only [score_0, max_0, value_0]
  rfl

/-! Group 1: dilation 4. -/

theorem pos_1 : ∀ (t : Fin 8) (j : Fin 129), (val_main_v51 (F := Ideal) (ix2 t j)).toInt.toNat = 2048 + t.val - 4 * j.val := by
  pointwise [val_main_v51, val_main_v50, val_main_c_9, val_main_v47, val_main_v46, val_main_v45, val_main_v44, val_main_v43, val_main_c_7, val_main_v42, val_main_v41, val_main_v40, val_main_v39, val_main_c_6, val_main_v38, val_main_v37]
  decide +kernel

theorem mask_1 : ∀ (t : Fin 8) (j : Fin 129), val_main_v49 (F := Ideal) (ix2 t j) = 1#1 := by
  pointwise [val_main_v49, val_main_v48, val_main_c_8, val_main_v47, val_main_v46, val_main_v45, val_main_v44, val_main_v43, val_main_c_7, val_main_v42, val_main_v41, val_main_v40, val_main_v39, val_main_c_6, val_main_v38, val_main_v37]
  decide +kernel

theorem key_1 (b : Fin 32) (t : Fin 8) (j : Fin 129) (h : Fin 16) (e : Fin 64) :
    val_main_v52 (F := Ideal) x1 x3 (ix5 b t j h e) = row x1 x3 4 b t (headOf 1 h) j e := by
  have hj := j.isLt
  have ht := t.isLt
  unfold val_main_v52
  rw [gather_read _ _ b t j h e ⟨2048 + t.val - 4 * j.val, by omega⟩ (by
    pointwise [val_main_call3_v0]
    exact (pos_1 t j).trans (by omega))]
  pointwise [val_main_v35, val_main_v0]
  refine Eq.trans ?_ (row_read x1 x3 4 b t (headOf 1 h) j e (2048 + t.val - 4 * j.val) (by omega) (by omega) (by omega))
  congr! 4 <;> first | exact Fin.ext (by simp [headOf]) | simp [headOf]

theorem value_1 (b : Fin 32) (t : Fin 8) (j : Fin 129) (h : Fin 16) (e : Fin 64) :
    val_main_v53 (F := Ideal) x2 x4 (ix5 b t j h e) = row x2 x4 4 b t (headOf 1 h) j e := by
  have hj := j.isLt
  have ht := t.isLt
  unfold val_main_v53
  rw [gather_read _ _ b t j h e ⟨2048 + t.val - 4 * j.val, by omega⟩ (by
    pointwise [val_main_call4_v0]
    exact (pos_1 t j).trans (by omega))]
  pointwise [val_main_v36, val_main_v1]
  refine Eq.trans ?_ (row_read x2 x4 4 b t (headOf 1 h) j e (2048 + t.val - 4 * j.val) (by omega) (by omega) (by omega))
  congr! 4 <;> first | exact Fin.ext (by simp [headOf]) | simp [headOf]

theorem score_1 (b : Fin 32) (t : Fin 8) (h : Fin 16) (j : Fin 129) :
    val_main_v58 (F := Ideal) x0 x1 x3 (ix4 b t h j) = score x0 x1 x3 4 b t (headOf 1 h) j := by
  pointwise [val_main_v58, val_main_v56, val_main_v55, val_main_cst_10, val_main_v54, val_main_v34, val_main_call5_v1, val_main_v57]
  rw [mask_1]
  unfold score
  rw [RowMath.eighth]
  show (_ : EReal) = _
  refine congrArg (· * _) (Finset.sum_congr rfl fun e _ => ?_)
  rw [key_1 x1 x3 b t j h e]
  congr 3 <;> exact Fin.ext (by simp [headOf])

theorem max_1 (b : Fin 32) (t : Fin 8) (h : Fin 16) :
    val_main_v59 (F := Ideal) x0 x1 x3 (ix3 b t h) = rowMax (score x0 x1 x3 4 b t (headOf 1 h)) := by
  pointwise [val_main_v59, val_main_cst_12]
  simp only [score_1, RowMath.negInf]
  rfl

theorem sum_1 (b : Fin 32) (t : Fin 8) (h : Fin 16) :
    val_main_v64 (F := Ideal) x0 x1 x3 (ix3 b t h) = rowSum (score x0 x1 x3 4 b t (headOf 1 h)) := by
  pointwise [val_main_v64, val_main_cst_13, val_main_v63, val_main_v62, val_main_v61, val_main_v60]
  simp only [score_1, max_1]
  rfl

theorem out_1 (b : Fin 32) (t : Fin 8) (h : Fin 16) (e : Fin 64) :
    val_main_v65 (F := Ideal) x0 x1 x2 x3 x4 (ix4 b t h e)
      = rowOut (score x0 x1 x3 4 b t (headOf 1 h)) fun j => row x2 x4 4 b t (headOf 1 h) j e := by
  pointwise [val_main_v65, val_main_v63, val_main_v62, val_main_v61, val_main_v60]
  simp only [score_1, max_1, value_1]
  rfl

/-! Group 2: dilation 16. -/

theorem pos_2 : ∀ (t : Fin 8) (j : Fin 129), (val_main_v83 (F := Ideal) (ix2 t j)).toInt.toNat = 2048 + t.val - 16 * j.val := by
  pointwise [val_main_v83, val_main_v82, val_main_c_17, val_main_v79, val_main_v78, val_main_v77, val_main_v76, val_main_v75, val_main_c_15, val_main_v74, val_main_v73, val_main_v72, val_main_v71, val_main_c_14, val_main_v70, val_main_v69]
  decide +kernel

theorem mask_2 : ∀ (t : Fin 8) (j : Fin 129), val_main_v81 (F := Ideal) (ix2 t j) = 1#1 := by
  pointwise [val_main_v81, val_main_v80, val_main_c_16, val_main_v79, val_main_v78, val_main_v77, val_main_v76, val_main_v75, val_main_c_15, val_main_v74, val_main_v73, val_main_v72, val_main_v71, val_main_c_14, val_main_v70, val_main_v69]
  decide +kernel

theorem key_2 (b : Fin 32) (t : Fin 8) (j : Fin 129) (h : Fin 16) (e : Fin 64) :
    val_main_v84 (F := Ideal) x1 x3 (ix5 b t j h e) = row x1 x3 16 b t (headOf 2 h) j e := by
  have hj := j.isLt
  have ht := t.isLt
  unfold val_main_v84
  rw [gather_read _ _ b t j h e ⟨2048 + t.val - 16 * j.val, by omega⟩ (by
    pointwise [val_main_call6_v0]
    exact (pos_2 t j).trans (by omega))]
  pointwise [val_main_v67, val_main_v0]
  refine Eq.trans ?_ (row_read x1 x3 16 b t (headOf 2 h) j e (2048 + t.val - 16 * j.val) (by omega) (by omega) (by omega))
  congr! 4 <;> first | exact Fin.ext (by simp [headOf]) | simp [headOf]

theorem value_2 (b : Fin 32) (t : Fin 8) (j : Fin 129) (h : Fin 16) (e : Fin 64) :
    val_main_v85 (F := Ideal) x2 x4 (ix5 b t j h e) = row x2 x4 16 b t (headOf 2 h) j e := by
  have hj := j.isLt
  have ht := t.isLt
  unfold val_main_v85
  rw [gather_read _ _ b t j h e ⟨2048 + t.val - 16 * j.val, by omega⟩ (by
    pointwise [val_main_call7_v0]
    exact (pos_2 t j).trans (by omega))]
  pointwise [val_main_v68, val_main_v1]
  refine Eq.trans ?_ (row_read x2 x4 16 b t (headOf 2 h) j e (2048 + t.val - 16 * j.val) (by omega) (by omega) (by omega))
  congr! 4 <;> first | exact Fin.ext (by simp [headOf]) | simp [headOf]

theorem score_2 (b : Fin 32) (t : Fin 8) (h : Fin 16) (j : Fin 129) :
    val_main_v90 (F := Ideal) x0 x1 x3 (ix4 b t h j) = score x0 x1 x3 16 b t (headOf 2 h) j := by
  pointwise [val_main_v90, val_main_v88, val_main_v87, val_main_cst_18, val_main_v86, val_main_v66, val_main_call8_v1, val_main_v89]
  rw [mask_2]
  unfold score
  rw [RowMath.eighth]
  show (_ : EReal) = _
  refine congrArg (· * _) (Finset.sum_congr rfl fun e _ => ?_)
  rw [key_2 x1 x3 b t j h e]
  congr 3 <;> exact Fin.ext (by simp [headOf])

theorem max_2 (b : Fin 32) (t : Fin 8) (h : Fin 16) :
    val_main_v91 (F := Ideal) x0 x1 x3 (ix3 b t h) = rowMax (score x0 x1 x3 16 b t (headOf 2 h)) := by
  pointwise [val_main_v91, val_main_cst_20]
  simp only [score_2, RowMath.negInf]
  rfl

theorem sum_2 (b : Fin 32) (t : Fin 8) (h : Fin 16) :
    val_main_v96 (F := Ideal) x0 x1 x3 (ix3 b t h) = rowSum (score x0 x1 x3 16 b t (headOf 2 h)) := by
  pointwise [val_main_v96, val_main_cst_21, val_main_v95, val_main_v94, val_main_v93, val_main_v92]
  simp only [score_2, max_2]
  rfl

theorem out_2 (b : Fin 32) (t : Fin 8) (h : Fin 16) (e : Fin 64) :
    val_main_v97 (F := Ideal) x0 x1 x2 x3 x4 (ix4 b t h e)
      = rowOut (score x0 x1 x3 16 b t (headOf 2 h)) fun j => row x2 x4 16 b t (headOf 2 h) j e := by
  pointwise [val_main_v97, val_main_v95, val_main_v94, val_main_v93, val_main_v92]
  simp only [score_2, max_2, value_2]
  rfl

/-! The merge. -/

theorem maxes (b : Fin 32) (t : Fin 8) (h : Fin 16) (g : Fin 3) :
    val_main_v101 (F := Ideal) x0 x1 x3 (ix4 g b t h) = rowMax (score x0 x1 x3 (dil g) b t (headOf g h)) := by
  pointwise [val_main_v101, val_main_v100, val_main_v99, val_main_v98]
  rw [max_0, max_1, max_2]
  match g with
  | 0 => rfl
  | 1 => rfl
  | 2 => rfl

theorem sums (b : Fin 32) (t : Fin 8) (h : Fin 16) (g : Fin 3) :
    val_main_v105 (F := Ideal) x0 x1 x3 (ix4 g b t h) = rowSum (score x0 x1 x3 (dil g) b t (headOf g h)) := by
  pointwise [val_main_v105, val_main_v104, val_main_v103, val_main_v102]
  rw [sum_0, sum_1, sum_2]
  match g with
  | 0 => rfl
  | 1 => rfl
  | 2 => rfl

theorem outs (b : Fin 32) (t : Fin 8) (h : Fin 16) (e : Fin 64) (g : Fin 3) :
    val_main_v109 (F := Ideal) x0 x1 x2 x3 x4 (ix5 g b t h e)
      = rowOut (score x0 x1 x3 (dil g) b t (headOf g h)) fun j => row x2 x4 (dil g) b t (headOf g h) j e := by
  pointwise [val_main_v109, val_main_v108, val_main_v107, val_main_v106]
  rw [out_0, out_1, out_2]
  match g with
  | 0 => rfl
  | 1 => rfl
  | 2 => rfl

/-- The reference's result at an element. -/
theorem result (b : Fin 32) (h : Fin 16) (t : Fin 8) (e : Fin 64) :
    val_main_v121 (F := Ideal) x0 x1 x2 x3 x4 (ix4 b h t e) = out x0 x1 x2 x3 x4 b h t e := by
  pointwise [val_main_v121, val_main_v120, val_main_v119, val_main_v118, val_main_v117, val_main_cst_23, val_main_v116,
    val_main_v115, val_main_v114, val_main_v113, val_main_v112, val_main_v111, val_main_v110, val_main_cst_22]
  simp only [maxes, sums, outs, RowMath.negInf]
  rfl

end Cert.RefDec

end
-- ==== Proof.Head.lean ====
/- One head of the decode attention as the kernel computes it, on the vectors it loads: the masks,
   the masked scores of the two stretches, their joint maximum, the weights, the weighted values,
   and the merge of the three groups. -/
module

public import proofs.«01_k».proof.Proof.DecSpec
public import proofs.«01_k».proof.Proof.Gen.KernelIdeal.Value

@[expose] public section

set_option maxRecDepth 16384

noncomputable section

namespace Cert.KernelIdeal.Head

open Cert.KernelIdeal Cert.KernelIdeal.Gen Idealize.ShloMosaic Idealize.ShloMosaic.TcCoe Idealize.SL.Sem

/-- The step of each row of a tile. -/
def step : IVec S8x1 32 := iota .tc S8x1 32 [0] iota_S8x1_d0_w32

/-- Which new positions are keys, from the positions `u` counted from the sequence's first row. -/
def maskN (d : BitVec 32) (u : IVec S1x128 32) : IVec S8x128 1 :=
  andi
    (andi (broadcastTo S8x128 (cmpi .sge u (broadcast S1x128 0#32)) broadcasts_S1x128_S8x128)
      (cmpi .sle (broadcastTo S8x128 u broadcasts_S1x128_S8x128) (broadcastTo S8x128 step broadcasts_S8x1_S8x128)))
    (cmpi .eq
      (andi (subi (broadcastTo S8x128 step broadcasts_S8x1_S8x128) (broadcastTo S8x128 u broadcasts_S1x128_S8x128))
        (broadcast S8x128 d)) (broadcast S8x128 0#32))

/-- The scaled query rows. -/
def query (q : Vec Ideal S1x1x8x64 .f32) : FVec Ideal S8x64 .bf16 :=
  truncf .bf16 (mulf (shapeCast S8x64 q shapeCasts_S1x1x8x64_S8x64)
    (broadcast S8x64 (Named.named κ "qscale" 0x3E38AA3B#32))) bitsLt_bf16_f32

/-- The new rows of one head, rounded. -/
def fresh (k : Vec Ideal S1x64x128 .f32) : FVec Ideal S64x128 .bf16 :=
  truncf .bf16 (shapeCast S64x128 k shapeCasts_S1x64x128_S64x128) bitsLt_bf16_f32

/-- The masked scores of the new rows. -/
def scoreN (mask : IVec S8x128 1) (q : Vec Ideal S1x1x8x64 .f32) (k : Vec Ideal S1x64x128 .f32) : FVec Ideal S8x128 .f32 :=
  select mask (matmul dot_S8x64_S64x128_S8x128_1_0_0_1_n_n none (query q) (fresh k) (constant S8x128 .f32 0x00000000#32))
    (broadcast S8x128 (Scalar.ofBits .f32 0xFF800000#32))

/-- The merge of the three groups' rows. -/
def merged (m0 m1 m2 l0 l1 l2 : FVec Ideal S8x1 .f32) (o0 o1 o2 : FVec Ideal S8x64 .f32) : FVec Ideal S1x1x8x64 .f32 :=
  have mx := maximumf (maximumf m0 m1) m2
  have w0 := exp2 (subf m0 mx)
  have w1 := exp2 (subf m1 mx)
  have w2 := exp2 (subf m2 mx)
  shapeCast S1x1x8x64
    (divf
      (addf (addf (mulf (broadcastTo S8x64 w0 broadcasts_S8x1_S8x64) o0) (mulf (broadcastTo S8x64 w1 broadcasts_S8x1_S8x64) o1))
        (mulf (broadcastTo S8x64 w2 broadcasts_S8x1_S8x64) o2))
      (broadcastTo S8x64 (addf (addf (mulf w0 l0) (mulf w1 l1)) (mulf w2 l2)) broadcasts_S8x1_S8x64))
    shapeCasts_S8x64_S1x1x8x64

/-! The stretch of 128 cached positions. -/

/-- Which cached positions are keys. -/
def maskC128 : IVec S8x128 1 :=
  have dist := subi (broadcastTo S8x128 (addi (broadcast S8x1 128#32) step) broadcasts_S8x1_S8x128)
    (broadcastTo S8x128 (iota .tc S1x128 32 [1] iota_S1x128_d1_w32) broadcasts_S1x128_S8x128)
  andi (cmpi .sle dist (broadcast S8x128 128#32))
    (cmpi .eq (andi dist (broadcast S8x128 0#32)) (broadcast S8x128 0#32))

/-- The cached rows of one head, rounded. -/
def cached128 (k : Vec Ideal S1x1x64x128 .f32) : FVec Ideal S64x128 .bf16 :=
  truncf .bf16 (shapeCast S64x128 k shapeCasts_S1x1x64x128_S64x128) bitsLt_bf16_f32

/-- The masked scores of the cached rows. -/
def scoreC128 (q : Vec Ideal S1x1x8x64 .f32) (k : Vec Ideal S1x1x64x128 .f32) : FVec Ideal S8x128 .f32 :=
  select maskC128 (matmul dot_S8x64_S64x128_S8x128_1_0_0_1_n_n none (query q) (cached128 k) (constant S8x128 .f32 0x00000000#32))
    (broadcast S8x128 (Scalar.ofBits .f32 0xFF800000#32))

/-- The largest score of the two stretches. -/
def top128 (c : FVec Ideal S8x128 .f32) (n : FVec Ideal S8x128 .f32) : FVec Ideal S8x1 .f32 :=
  maximumf (shapeCast S8x1 (multiReduction .maximumf [1] S8 c 0xFF800000#32 reduces_S8x128_S8 (.inl rfl) rfl) shapeCasts_S8_S8x1)
    (shapeCast S8x1 (multiReduction .maximumf [1] S8 n 0xFF800000#32 reduces_S8x128_S8 (.inl rfl) rfl) shapeCasts_S8_S8x1)

/-- The weights of the cached rows. -/
def weightC128 (c : FVec Ideal S8x128 .f32) (n : FVec Ideal S8x128 .f32) : FVec Ideal S8x128 .f32 :=
  exp2 (subf c (broadcastTo S8x128 (top128 c n) broadcasts_S8x1_S8x128))

/-- The weights of the new rows. -/
def weightN128 (c : FVec Ideal S8x128 .f32) (n : FVec Ideal S8x128 .f32) : FVec Ideal S8x128 .f32 :=
  exp2 (subf n (broadcastTo S8x128 (top128 c n) broadcasts_S8x1_S8x128))

/-- The normalizer. -/
def norm128 (c : FVec Ideal S8x128 .f32) (n : FVec Ideal S8x128 .f32) : FVec Ideal S8x1 .f32 :=
  addf (shapeCast S8x1 (multiReduction .add [1] S8 (weightC128 c n) 0x00000000#32 reduces_S8x128_S8 (.inl rfl) rfl) shapeCasts_S8_S8x1)
    (shapeCast S8x1 (multiReduction .add [1] S8 (weightN128 c n) 0x00000000#32 reduces_S8x128_S8 (.inl rfl) rfl) shapeCasts_S8_S8x1)

/-- The weighted sum of the values. -/
def mixed128 (c : FVec Ideal S8x128 .f32) (n : FVec Ideal S8x128 .f32) (vc : Vec Ideal S1x1x64x128 .f32) (vn : Vec Ideal S1x64x128 .f32) :
    FVec Ideal S8x64 .f32 :=
  addf
    (matmul dot_S8x128_S64x128_S8x64_1_1_0_0_n_n none (truncf .bf16 (weightC128 c n) bitsLt_bf16_f32) (cached128 vc) (constant S8x64 .f32 0x00000000#32))
    (matmul dot_S8x128_S64x128_S8x64_1_1_0_0_n_n none (truncf .bf16 (weightN128 c n) bitsLt_bf16_f32) (fresh vn) (constant S8x64 .f32 0x00000000#32))

/-! The stretch of 512 cached positions. -/

/-- Which cached positions are keys. -/
def maskC512 : IVec S8x512 1 :=
  have dist := subi (broadcastTo S8x512 (addi (broadcast S8x1 512#32) step) broadcasts_S8x1_S8x512)
    (broadcastTo S8x512 (iota .tc S1x512 32 [1] iota_S1x512_d1_w32) broadcasts_S1x512_S8x512)
  andi (cmpi .sle dist (broadcast S8x512 512#32))
    (cmpi .eq (andi dist (broadcast S8x512 3#32)) (broadcast S8x512 0#32))

/-- The cached rows of one head, rounded. -/
def cached512 (k : Vec Ideal S1x1x64x512 .f32) : FVec Ideal S64x512 .bf16 :=
  truncf .bf16 (shapeCast S64x512 k shapeCasts_S1x1x64x512_S64x512) bitsLt_bf16_f32

/-- The masked scores of the cached rows. -/
def scoreC512 (q : Vec Ideal S1x1x8x64 .f32) (k : Vec Ideal S1x1x64x512 .f32) : FVec Ideal S8x512 .f32 :=
  select maskC512 (matmul dot_S8x64_S64x512_S8x512_1_0_0_1_n_n none (query q) (cached512 k) (constant S8x512 .f32 0x00000000#32))
    (broadcast S8x512 (Scalar.ofBits .f32 0xFF800000#32))

/-- The largest score of the two stretches. -/
def top512 (c : FVec Ideal S8x512 .f32) (n : FVec Ideal S8x128 .f32) : FVec Ideal S8x1 .f32 :=
  maximumf (shapeCast S8x1 (multiReduction .maximumf [1] S8 c 0xFF800000#32 reduces_S8x512_S8 (.inl rfl) rfl) shapeCasts_S8_S8x1)
    (shapeCast S8x1 (multiReduction .maximumf [1] S8 n 0xFF800000#32 reduces_S8x128_S8 (.inl rfl) rfl) shapeCasts_S8_S8x1)

/-- The weights of the cached rows. -/
def weightC512 (c : FVec Ideal S8x512 .f32) (n : FVec Ideal S8x128 .f32) : FVec Ideal S8x512 .f32 :=
  exp2 (subf c (broadcastTo S8x512 (top512 c n) broadcasts_S8x1_S8x512))

/-- The weights of the new rows. -/
def weightN512 (c : FVec Ideal S8x512 .f32) (n : FVec Ideal S8x128 .f32) : FVec Ideal S8x128 .f32 :=
  exp2 (subf n (broadcastTo S8x128 (top512 c n) broadcasts_S8x1_S8x128))

/-- The normalizer. -/
def norm512 (c : FVec Ideal S8x512 .f32) (n : FVec Ideal S8x128 .f32) : FVec Ideal S8x1 .f32 :=
  addf (shapeCast S8x1 (multiReduction .add [1] S8 (weightC512 c n) 0x00000000#32 reduces_S8x512_S8 (.inl rfl) rfl) shapeCasts_S8_S8x1)
    (shapeCast S8x1 (multiReduction .add [1] S8 (weightN512 c n) 0x00000000#32 reduces_S8x128_S8 (.inl rfl) rfl) shapeCasts_S8_S8x1)

/-- The weighted sum of the values. -/
def mixed512 (c : FVec Ideal S8x512 .f32) (n : FVec Ideal S8x128 .f32) (vc : Vec Ideal S1x1x64x512 .f32) (vn : Vec Ideal S1x64x128 .f32) :
    FVec Ideal S8x64 .f32 :=
  addf
    (matmul dot_S8x512_S64x512_S8x64_1_1_0_0_n_n none (truncf .bf16 (weightC512 c n) bitsLt_bf16_f32) (cached512 vc) (constant S8x64 .f32 0x00000000#32))
    (matmul dot_S8x128_S64x128_S8x64_1_1_0_0_n_n none (truncf .bf16 (weightN512 c n) bitsLt_bf16_f32) (fresh vn) (constant S8x64 .f32 0x00000000#32))

/-! The stretch of 2048 cached positions. -/

/-- Which cached positions are keys. -/
def maskC2048 : IVec S8x2048 1 :=
  have dist := subi (broadcastTo S8x2048 (addi (broadcast S8x1 2048#32) step) broadcasts_S8x1_S8x2048)
    (broadcastTo S8x2048 (iota .tc S1x2048 32 [1] iota_S1x2048_d1_w32) broadcasts_S1x2048_S8x2048)
  andi (cmpi .sle dist (broadcast S8x2048 2048#32))
    (cmpi .eq (andi dist (broadcast S8x2048 15#32)) (broadcast S8x2048 0#32))

/-- The cached rows of one head, rounded. -/
def cached2048 (k : Vec Ideal S1x1x64x2048 .f32) : FVec Ideal S64x2048 .bf16 :=
  truncf .bf16 (shapeCast S64x2048 k shapeCasts_S1x1x64x2048_S64x2048) bitsLt_bf16_f32

/-- The masked scores of the cached rows. -/
def scoreC2048 (q : Vec Ideal S1x1x8x64 .f32) (k : Vec Ideal S1x1x64x2048 .f32) : FVec Ideal S8x2048 .f32 :=
  select maskC2048 (matmul dot_S8x64_S64x2048_S8x2048_1_0_0_1_n_n none (query q) (cached2048 k) (constant S8x2048 .f32 0x00000000#32))
    (broadcast S8x2048 (Scalar.ofBits .f32 0xFF800000#32))

/-- The largest score of the two stretches. -/
def top2048 (c : FVec Ideal S8x2048 .f32) (n : FVec Ideal S8x128 .f32) : FVec Ideal S8x1 .f32 :=
  maximumf (shapeCast S8x1 (multiReduction .maximumf [1] S8 c 0xFF800000#32 reduces_S8x2048_S8 (.inl rfl) rfl) shapeCasts_S8_S8x1)
    (shapeCast S8x1 (multiReduction .maximumf [1] S8 n 0xFF800000#32 reduces_S8x128_S8 (.inl rfl) rfl) shapeCasts_S8_S8x1)

/-- The weights of the cached rows. -/
def weightC2048 (c : FVec Ideal S8x2048 .f32) (n : FVec Ideal S8x128 .f32) : FVec Ideal S8x2048 .f32 :=
  exp2 (subf c (broadcastTo S8x2048 (top2048 c n) broadcasts_S8x1_S8x2048))

/-- The weights of the new rows. -/
def weightN2048 (c : FVec Ideal S8x2048 .f32) (n : FVec Ideal S8x128 .f32) : FVec Ideal S8x128 .f32 :=
  exp2 (subf n (broadcastTo S8x128 (top2048 c n) broadcasts_S8x1_S8x128))

/-- The normalizer. -/
def norm2048 (c : FVec Ideal S8x2048 .f32) (n : FVec Ideal S8x128 .f32) : FVec Ideal S8x1 .f32 :=
  addf (shapeCast S8x1 (multiReduction .add [1] S8 (weightC2048 c n) 0x00000000#32 reduces_S8x2048_S8 (.inl rfl) rfl) shapeCasts_S8_S8x1)
    (shapeCast S8x1 (multiReduction .add [1] S8 (weightN2048 c n) 0x00000000#32 reduces_S8x128_S8 (.inl rfl) rfl) shapeCasts_S8_S8x1)

/-- The weighted sum of the values. -/
def mixed2048 (c : FVec Ideal S8x2048 .f32) (n : FVec Ideal S8x128 .f32) (vc : Vec Ideal S1x1x64x2048 .f32) (vn : Vec Ideal S1x64x128 .f32) :
    FVec Ideal S8x64 .f32 :=
  addf
    (matmul dot_S8x2048_S64x2048_S8x64_1_1_0_0_n_n none (truncf .bf16 (weightC2048 c n) bitsLt_bf16_f32) (cached2048 vc) (constant S8x64 .f32 0x00000000#32))
    (matmul dot_S8x128_S64x128_S8x64_1_1_0_0_n_n none (truncf .bf16 (weightN2048 c n) bitsLt_bf16_f32) (fresh vn) (constant S8x64 .f32 0x00000000#32))

/-- One head's result. -/
def head (u : IVec S1x128 32) (q0 q1 q2 : Vec Ideal S1x1x8x64 .f32)
    (kc0 vc0 : Vec Ideal S1x1x64x128 .f32) (kc1 vc1 : Vec Ideal S1x1x64x512 .f32) (kc2 vc2 : Vec Ideal S1x1x64x2048 .f32)
    (kn0 vn0 kn1 vn1 kn2 vn2 : Vec Ideal S1x64x128 .f32) : FVec Ideal S1x1x8x64 .f32 :=
  merged
    (top128 (scoreC128 q0 kc0) (scoreN (maskN 0#32 u) q0 kn0))
    (top512 (scoreC512 q1 kc1) (scoreN (maskN 3#32 u) q1 kn1))
    (top2048 (scoreC2048 q2 kc2) (scoreN (maskN 15#32 u) q2 kn2))
    (norm128 (scoreC128 q0 kc0) (scoreN (maskN 0#32 u) q0 kn0))
    (norm512 (scoreC512 q1 kc1) (scoreN (maskN 3#32 u) q1 kn1))
    (norm2048 (scoreC2048 q2 kc2) (scoreN (maskN 15#32 u) q2 kn2))
    (mixed128 (scoreC128 q0 kc0) (scoreN (maskN 0#32 u) q0 kn0) vc0 vn0)
    (mixed512 (scoreC512 q1 kc1) (scoreN (maskN 3#32 u) q1 kn1) vc1 vn1)
    (mixed2048 (scoreC2048 q2 kc2) (scoreN (maskN 15#32 u) q2 kn2) vc2 vn2)

end Cert.KernelIdeal.Head

end
-- ==== Proof.HeadMask.lean ====
/- The decode attention's masks, decided: a cached position or a new row is kept exactly when it is a key of the
   query's group. -/
module

public import proofs.«01_k».proof.Proof.Head

@[expose] public section

set_option maxRecDepth 16384

noncomputable section

namespace Cert.KernelIdeal.Head

open Cert.KernelIdeal Cert.KernelIdeal.Gen Idealize.ShloMosaic Idealize.ShloMosaic.TcCoe Idealize.SL.Sem
open Cert.RowKeys

instance (win dil t p : ℕ) : Decidable (CacheKey win dil t p) := by unfold CacheKey; infer_instance
instance (dil off t u : ℕ) : Decidable (NewKey dil off t u) := by unfold NewKey; infer_instance

/-- The positions counted from the sequence's first row. -/
def At (r : Fin 16) (w : IVec S1x128 32) : Prop :=
  ∀ u : Fin 128, w (ix2 (0 : Fin 1) u) = IntOp.subi (BitVec.ofNat 32 u.val) (BitVec.ofNat 32 (8 * r.val))

/-! The stretch of 128 cached positions, dilation 1. -/

theorem maskN128 : ∀ (r : Fin 16) (t : Fin 8) (u : Fin 128),
    IntOp.andi
      (IntOp.andi (IntOp.cmpi .sge (IntOp.subi (BitVec.ofNat 32 u.val) (BitVec.ofNat 32 (8 * r.val))) 0#32)
        (IntOp.cmpi .sle (IntOp.subi (BitVec.ofNat 32 u.val) (BitVec.ofNat 32 (8 * r.val))) (BitVec.ofNat 32 t.val)))
      (IntOp.cmpi .eq (IntOp.andi (IntOp.subi (BitVec.ofNat 32 t.val)
        (IntOp.subi (BitVec.ofNat 32 u.val) (BitVec.ofNat 32 (8 * r.val)))) 0#32) 0#32) = 1#1 ↔ NewKey 1 (8 * r.val) t.val u.val := by
  decide +kernel

theorem maskN128_apply (r : Fin 16) (w : IVec S1x128 32) (hw : At r w) (t : Fin 8) (u : Fin 128) :
    maskN 0#32 w (ix2 t u) = 1#1 ↔ NewKey 1 (8 * r.val) t.val u.val := by
  pointwise [maskN, step]
  rw [hw u]
  exact maskN128 r t u

theorem maskC128_apply : ∀ (t : Fin 8) (p : Fin 128), maskC128 (ix2 t p) = 1#1 ↔ CacheKey 128 1 t.val p.val := by
  pointwise [maskC128, step]
  decide +kernel

/-! The stretch of 512 cached positions, dilation 4. -/

theorem maskN512 : ∀ (r : Fin 16) (t : Fin 8) (u : Fin 128),
    IntOp.andi
      (IntOp.andi (IntOp.cmpi .sge (IntOp.subi (BitVec.ofNat 32 u.val) (BitVec.ofNat 32 (8 * r.val))) 0#32)
        (IntOp.cmpi .sle (IntOp.subi (BitVec.ofNat 32 u.val) (BitVec.ofNat 32 (8 * r.val))) (BitVec.ofNat 32 t.val)))
      (IntOp.cmpi .eq (IntOp.andi (IntOp.subi (BitVec.ofNat 32 t.val)
        (IntOp.subi (BitVec.ofNat 32 u.val) (BitVec.ofNat 32 (8 * r.val)))) 3#32) 0#32) = 1#1 ↔ NewKey 4 (8 * r.val) t.val u.val := by
  decide +kernel

theorem maskN512_apply (r : Fin 16) (w : IVec S1x128 32) (hw : At r w) (t : Fin 8) (u : Fin 128) :
    maskN 3#32 w (ix2 t u) = 1#1 ↔ NewKey 4 (8 * r.val) t.val u.val := by
  pointwise [maskN, step]
  rw [hw u]
  exact maskN512 r t u

theorem maskC512_apply : ∀ (t : Fin 8) (p : Fin 512), maskC512 (ix2 t p) = 1#1 ↔ CacheKey 512 4 t.val p.val := by
  pointwise [maskC512, step]
  decide +kernel

/-! The stretch of 2048 cached positions, dilation 16. -/

theorem maskN2048 : ∀ (r : Fin 16) (t : Fin 8) (u : Fin 128),
    IntOp.andi
      (IntOp.andi (IntOp.cmpi .sge (IntOp.subi (BitVec.ofNat 32 u.val) (BitVec.ofNat 32 (8 * r.val))) 0#32)
        (IntOp.cmpi .sle (IntOp.subi (BitVec.ofNat 32 u.val) (BitVec.ofNat 32 (8 * r.val))) (BitVec.ofNat 32 t.val)))
      (IntOp.cmpi .eq (IntOp.andi (IntOp.subi (BitVec.ofNat 32 t.val)
        (IntOp.subi (BitVec.ofNat 32 u.val) (BitVec.ofNat 32 (8 * r.val)))) 15#32) 0#32) = 1#1 ↔ NewKey 16 (8 * r.val) t.val u.val := by
  decide +kernel

theorem maskN2048_apply (r : Fin 16) (w : IVec S1x128 32) (hw : At r w) (t : Fin 8) (u : Fin 128) :
    maskN 15#32 w (ix2 t u) = 1#1 ↔ NewKey 16 (8 * r.val) t.val u.val := by
  pointwise [maskN, step]
  rw [hw u]
  exact maskN2048 r t u

theorem maskC2048_apply : ∀ (t : Fin 8) (p : Fin 2048), maskC2048 (ix2 t p) = 1#1 ↔ CacheKey 2048 16 t.val p.val := by
  pointwise [maskC2048, step]
  decide +kernel

end Cert.KernelIdeal.Head

end
-- ==== Proof.HeadValue.lean ====
/- One head of the decode attention as the kernel computes it, read at an element: the masked scan of
   a group's two stretches gives the group's row, and the merge of the three rows the result. -/
module

public import proofs.«01_k».proof.Proof.HeadMask

@[expose] public section

set_option maxRecDepth 16384

noncomputable section

namespace Cert.KernelIdeal.Head

open Cert.KernelIdeal Cert.KernelIdeal.Gen Idealize.ShloMosaic Idealize.ShloMosaic.TcCoe Idealize.SL.Sem
open Cert.DecSpec Cert.RowMath Cert.RowKeys

/-- The named scale. -/
theorem scale : (Named.named (F := Ideal) (φ := .f32) κ "qscale" 0x3E38AA3B#32 : EReal) = (((1 / 8) * (Real.log 2)⁻¹ : ℝ) : EReal) :=
  IdealRules.named_const.ideal_named_scalar _ _ _ _ rfl

theorem scoreN_apply (mask : IVec S8x128 1) (q : Vec Ideal S1x1x8x64 .f32) (k : Vec Ideal S1x64x128 .f32) (t : Fin 8) (u : Fin 128) :
    scoreN mask q k (ix2 t u) = Scalar.select (mask (ix2 t u))
      (∑ e, q (ix4 (0 : Fin 1) (0 : Fin 1) t e) * (((1 / 8) * (Real.log 2)⁻¹ : ℝ) : EReal) * k (ix3 (0 : Fin 1) e u) : EReal) (⊥ : EReal) := by
  pointwise [scoreN, query, fresh]
  rw [scale, negInf]

/-- A product of a query row with a key row, scaled, is the key's score in base 2. -/
theorem scaled (Q KN : New) (KC : Cache) (d : ℕ) (b : Fin 32) (t : Fin 8) (hd : Fin 48) (j : Fin 129) (q k : Fin 64 → EReal)
    (hq : ∀ e, q e = Q (ix4 b t hd e)) (hk : ∀ e, k e = row KN KC d b t hd j e) :
    ∑ e, q e * (((1 / 8) * (Real.log 2)⁻¹ : ℝ) : EReal) * k e = lg * score Q KN KC d b t hd j := by
  rw [score_scale]
  unfold score
  simp only [hq, hk]

theorem pick_one {α : Type} (a b : α) : Scalar.select 1#1 a b = a := rfl

theorem pick_zero {α : Type} (a b : α) : Scalar.select 0#1 a b = b := rfl

/-- A bit that is not one is zero. -/
theorem eq_zero_of_ne_one {x : BitVec 1} (h : x ≠ 1#1) : x = 0#1 := by
  revert x
  decide

theorem merged_apply (m l o : Fin 3 → EReal) (m0 m1 m2 l0 l1 l2 : FVec Ideal S8x1 .f32) (o0 o1 o2 : FVec Ideal S8x64 .f32)
    (t : Fin 8) (e : Fin 64)
    (h0 : m0 (ix2 t (0 : Fin 1)) = lg * m 0 ∧ l0 (ix2 t (0 : Fin 1)) = l 0 ∧ o0 (ix2 t e) = o 0)
    (h1 : m1 (ix2 t (0 : Fin 1)) = lg * m 1 ∧ l1 (ix2 t (0 : Fin 1)) = l 1 ∧ o1 (ix2 t e) = o 1)
    (h2 : m2 (ix2 t (0 : Fin 1)) = lg * m 2 ∧ l2 (ix2 t (0 : Fin 1)) = l 2 ∧ o2 (ix2 t e) = o 2) :
    merged m0 m1 m2 l0 l1 l2 o0 o1 o2 (ix4 (0 : Fin 1) (0 : Fin 1) t e) = mergeRows m l o := by
  pointwise [merged]
  rw [h0.1, h1.1, h2.1, h0.2.1, h1.2.1, h2.2.1, h0.2.2, h1.2.2, h2.2.2]
  exact RowKeys.merge m l o _ rfl

/-! The stretch of 128 cached positions, dilation 1. -/

theorem scoreC128_apply (q : Vec Ideal S1x1x8x64 .f32) (k : Vec Ideal S1x1x64x128 .f32) (t : Fin 8) (p : Fin 128) :
    scoreC128 q k (ix2 t p) = Scalar.select (maskC128 (ix2 t p))
      (∑ e, q (ix4 (0 : Fin 1) (0 : Fin 1) t e) * (((1 / 8) * (Real.log 2)⁻¹ : ℝ) : EReal) * k (ix4 (0 : Fin 1) (0 : Fin 1) e p) : EReal) (⊥ : EReal) := by
  pointwise [scoreC128, query, cached128]
  rw [scale, negInf]

section
variable (Q KN VN : New) (KC VC : Cache) (b : Fin 32) (t : Fin 8) (hd : Fin 48) (e : Fin 64) (r : Fin 16) (w : IVec S1x128 32) (hw : At r w)
  (q : Vec Ideal S1x1x8x64 .f32) (kc vc : Vec Ideal S1x1x64x128 .f32) (kn vn : Vec Ideal S1x64x128 .f32)
  (hq : ∀ e, q (ix4 (0 : Fin 1) (0 : Fin 1) t e) = Q (ix4 b t hd e))
  (hkc : ∀ e (p : Fin 128) (z : Fin 2048), z.val = 2048 - 128 + p.val → kc (ix4 (0 : Fin 1) (0 : Fin 1) e p) = KC (ix4 b z hd e))
  (hvc : ∀ e (p : Fin 128) (z : Fin 2048), z.val = 2048 - 128 + p.val → vc (ix4 (0 : Fin 1) (0 : Fin 1) e p) = VC (ix4 b z hd e))
  (hkn : ∀ e (u : Fin 128) (s : Fin 8), u.val = 8 * r.val + s.val → kn (ix3 (0 : Fin 1) e u) = KN (ix4 b s hd e))
  (hvn : ∀ e (u : Fin 128) (s : Fin 8), u.val = 8 * r.val + s.val → vn (ix3 (0 : Fin 1) e u) = VN (ix4 b s hd e))

omit hw in
include hkc in
/-- A cached key's row. -/
theorem cachedRow128 (e : Fin 64) (j : Fin 129) (p : Fin 128) (h1 : t.val < 1 * j.val) (h2 : p.val = 128 + t.val - 1 * j.val) :
    kc (ix4 (0 : Fin 1) (0 : Fin 1) e p) = row KN KC 1 b t hd j e := by
  have hj := j.isLt
  unfold row
  rw [dif_neg (by omega)]
  exact hkc e p _ (show 2048 + t.val - 1 * j.val = 2048 - 128 + p.val by omega)

omit hw in
include hkn in
/-- A new key's row. -/
theorem freshRow128 (e : Fin 64) (j : Fin 129) (u : Fin 128) (h1 : 1 * j.val ≤ t.val) (h2 : u.val = 8 * r.val + (t.val - 1 * j.val)) :
    kn (ix3 (0 : Fin 1) e u) = row KN KC 1 b t hd j e := by
  unfold row
  rw [dif_pos h1]
  exact hkn e u _ h2

include hw hq hkc hvc hkn hvn in
/-- The group's row. -/
theorem group128 :
    top128 (scoreC128 q kc) (scoreN (maskN 0#32 w) q kn) (ix2 t (0 : Fin 1)) = lg * rowMax (score Q KN KC 1 b t hd)
    ∧ norm128 (scoreC128 q kc) (scoreN (maskN 0#32 w) q kn) (ix2 t (0 : Fin 1)) = rowSum (score Q KN KC 1 b t hd)
    ∧ mixed128 (scoreC128 q kc) (scoreN (maskN 0#32 w) q kn) vc vn (ix2 t e)
      = rowOut (score Q KN KC 1 b t hd) fun j => row VN VC 1 b t hd j e := by
  have hg := RowKeys.group (win := 128) (dil := 1) (off := 8 * r.val) (t := t.val) (by norm_num) (by norm_num) t.isLt (by omega)
    (score Q KN KC 1 b t hd) (fun j => row VN VC 1 b t hd j e)
    (fun p => scoreC128 q kc (ix2 t p)) (fun p => vc (ix4 (0 : Fin 1) (0 : Fin 1) e p))
    (fun u => scoreN (maskN 0#32 w) q kn (ix2 t u)) (fun u => vn (ix3 (0 : Fin 1) e u))
    (fun j p h1 h2 h3 => by
      constructor
      · show scoreC128 q kc (ix2 t p) = _
        rw [scoreC128_apply, (maskC128_apply t p).2 h3, pick_one]
        exact scaled Q KN KC 1 b t hd j _ _ hq fun e => cachedRow128 KN KC b t hd kc hkc e j p h1 h2
      · exact cachedRow128 VN VC b t hd vc hvc e j p h1 h2)
    (fun j u h1 h2 h3 => by
      constructor
      · show scoreN _ q kn (ix2 t u) = _
        rw [scoreN_apply, (maskN128_apply r w hw t u).2 h3, pick_one]
        exact scaled Q KN KC 1 b t hd j _ _ hq fun e => freshRow128 KN KC b t hd r kn hkn e j u h1 h2
      · exact freshRow128 VN VC b t hd r vn hvn e j u h1 h2)
    (fun p h => by
      show scoreC128 q kc (ix2 t p) = _
      rw [scoreC128_apply, eq_zero_of_ne_one fun h' => h ((maskC128_apply t p).1 h'), pick_zero])
    (fun u h => by
      show scoreN _ q kn (ix2 t u) = _
      rw [scoreN_apply, eq_zero_of_ne_one fun h' => h ((maskN128_apply r w hw t u).1 h'), pick_zero])
  have ht : top128 (scoreC128 q kc) (scoreN (maskN 0#32 w) q kn) (ix2 t (0 : Fin 1)) = lg * rowMax (score Q KN KC 1 b t hd) := by
    pointwise [top128]
    rw [negInf]
    exact hg.1
  refine ⟨ht, ?_, ?_⟩
  · pointwise [norm128, weightC128, weightN128]
    rw [ht]
    exact hg.2.1 _
  · pointwise [mixed128, weightC128, weightN128, cached128, fresh]
    rw [ht]
    exact hg.2.2 _

end

/-! The stretch of 512 cached positions, dilation 4. -/

theorem scoreC512_apply (q : Vec Ideal S1x1x8x64 .f32) (k : Vec Ideal S1x1x64x512 .f32) (t : Fin 8) (p : Fin 512) :
    scoreC512 q k (ix2 t p) = Scalar.select (maskC512 (ix2 t p))
      (∑ e, q (ix4 (0 : Fin 1) (0 : Fin 1) t e) * (((1 / 8) * (Real.log 2)⁻¹ : ℝ) : EReal) * k (ix4 (0 : Fin 1) (0 : Fin 1) e p) : EReal) (⊥ : EReal) := by
  pointwise [scoreC512, query, cached512]
  rw [scale, negInf]

section
variable (Q KN VN : New) (KC VC : Cache) (b : Fin 32) (t : Fin 8) (hd : Fin 48) (e : Fin 64) (r : Fin 16) (w : IVec S1x128 32) (hw : At r w)
  (q : Vec Ideal S1x1x8x64 .f32) (kc vc : Vec Ideal S1x1x64x512 .f32) (kn vn : Vec Ideal S1x64x128 .f32)
  (hq : ∀ e, q (ix4 (0 : Fin 1) (0 : Fin 1) t e) = Q (ix4 b t hd e))
  (hkc : ∀ e (p : Fin 512) (z : Fin 2048), z.val = 2048 - 512 + p.val → kc (ix4 (0 : Fin 1) (0 : Fin 1) e p) = KC (ix4 b z hd e))
  (hvc : ∀ e (p : Fin 512) (z : Fin 2048), z.val = 2048 - 512 + p.val → vc (ix4 (0 : Fin 1) (0 : Fin 1) e p) = VC (ix4 b z hd e))
  (hkn : ∀ e (u : Fin 128) (s : Fin 8), u.val = 8 * r.val + s.val → kn (ix3 (0 : Fin 1) e u) = KN (ix4 b s hd e))
  (hvn : ∀ e (u : Fin 128) (s : Fin 8), u.val = 8 * r.val + s.val → vn (ix3 (0 : Fin 1) e u) = VN (ix4 b s hd e))

omit hw in
include hkc in
/-- A cached key's row. -/
theorem cachedRow512 (e : Fin 64) (j : Fin 129) (p : Fin 512) (h1 : t.val < 4 * j.val) (h2 : p.val = 512 + t.val - 4 * j.val) :
    kc (ix4 (0 : Fin 1) (0 : Fin 1) e p) = row KN KC 4 b t hd j e := by
  have hj := j.isLt
  unfold row
  rw [dif_neg (by omega)]
  exact hkc e p _ (show 2048 + t.val - 4 * j.val = 2048 - 512 + p.val by omega)

omit hw in
include hkn in
/-- A new key's row. -/
theorem freshRow512 (e : Fin 64) (j : Fin 129) (u : Fin 128) (h1 : 4 * j.val ≤ t.val) (h2 : u.val = 8 * r.val + (t.val - 4 * j.val)) :
    kn (ix3 (0 : Fin 1) e u) = row KN KC 4 b t hd j e := by
  unfold row
  rw [dif_pos h1]
  exact hkn e u _ h2

include hw hq hkc hvc hkn hvn in
/-- The group's row. -/
theorem group512 :
    top512 (scoreC512 q kc) (scoreN (maskN 3#32 w) q kn) (ix2 t (0 : Fin 1)) = lg * rowMax (score Q KN KC 4 b t hd)
    ∧ norm512 (scoreC512 q kc) (scoreN (maskN 3#32 w) q kn) (ix2 t (0 : Fin 1)) = rowSum (score Q KN KC 4 b t hd)
    ∧ mixed512 (scoreC512 q kc) (scoreN (maskN 3#32 w) q kn) vc vn (ix2 t e)
      = rowOut (score Q KN KC 4 b t hd) fun j => row VN VC 4 b t hd j e := by
  have hg := RowKeys.group (win := 512) (dil := 4) (off := 8 * r.val) (t := t.val) (by norm_num) (by norm_num) t.isLt (by omega)
    (score Q KN KC 4 b t hd) (fun j => row VN VC 4 b t hd j e)
    (fun p => scoreC512 q kc (ix2 t p)) (fun p => vc (ix4 (0 : Fin 1) (0 : Fin 1) e p))
    (fun u => scoreN (maskN 3#32 w) q kn (ix2 t u)) (fun u => vn (ix3 (0 : Fin 1) e u))
    (fun j p h1 h2 h3 => by
      constructor
      · show scoreC512 q kc (ix2 t p) = _
        rw [scoreC512_apply, (maskC512_apply t p).2 h3, pick_one]
        exact scaled Q KN KC 4 b t hd j _ _ hq fun e => cachedRow512 KN KC b t hd kc hkc e j p h1 h2
      · exact cachedRow512 VN VC b t hd vc hvc e j p h1 h2)
    (fun j u h1 h2 h3 => by
      constructor
      · show scoreN _ q kn (ix2 t u) = _
        rw [scoreN_apply, (maskN512_apply r w hw t u).2 h3, pick_one]
        exact scaled Q KN KC 4 b t hd j _ _ hq fun e => freshRow512 KN KC b t hd r kn hkn e j u h1 h2
      · exact freshRow512 VN VC b t hd r vn hvn e j u h1 h2)
    (fun p h => by
      show scoreC512 q kc (ix2 t p) = _
      rw [scoreC512_apply, eq_zero_of_ne_one fun h' => h ((maskC512_apply t p).1 h'), pick_zero])
    (fun u h => by
      show scoreN _ q kn (ix2 t u) = _
      rw [scoreN_apply, eq_zero_of_ne_one fun h' => h ((maskN512_apply r w hw t u).1 h'), pick_zero])
  have ht : top512 (scoreC512 q kc) (scoreN (maskN 3#32 w) q kn) (ix2 t (0 : Fin 1)) = lg * rowMax (score Q KN KC 4 b t hd) := by
    pointwise [top512]
    rw [negInf]
    exact hg.1
  refine ⟨ht, ?_, ?_⟩
  · pointwise [norm512, weightC512, weightN512]
    rw [ht]
    exact hg.2.1 _
  · pointwise [mixed512, weightC512, weightN512, cached512, fresh]
    rw [ht]
    exact hg.2.2 _

end

/-! The stretch of 2048 cached positions, dilation 16. -/

theorem scoreC2048_apply (q : Vec Ideal S1x1x8x64 .f32) (k : Vec Ideal S1x1x64x2048 .f32) (t : Fin 8) (p : Fin 2048) :
    scoreC2048 q k (ix2 t p) = Scalar.select (maskC2048 (ix2 t p))
      (∑ e, q (ix4 (0 : Fin 1) (0 : Fin 1) t e) * (((1 / 8) * (Real.log 2)⁻¹ : ℝ) : EReal) * k (ix4 (0 : Fin 1) (0 : Fin 1) e p) : EReal) (⊥ : EReal) := by
  pointwise [scoreC2048, query, cached2048]
  rw [scale, negInf]

section
variable (Q KN VN : New) (KC VC : Cache) (b : Fin 32) (t : Fin 8) (hd : Fin 48) (e : Fin 64) (r : Fin 16) (w : IVec S1x128 32) (hw : At r w)
  (q : Vec Ideal S1x1x8x64 .f32) (kc vc : Vec Ideal S1x1x64x2048 .f32) (kn vn : Vec Ideal S1x64x128 .f32)
  (hq : ∀ e, q (ix4 (0 : Fin 1) (0 : Fin 1) t e) = Q (ix4 b t hd e))
  (hkc : ∀ e (p : Fin 2048) (z : Fin 2048), z.val = 2048 - 2048 + p.val → kc (ix4 (0 : Fin 1) (0 : Fin 1) e p) = KC (ix4 b z hd e))
  (hvc : ∀ e (p : Fin 2048) (z : Fin 2048), z.val = 2048 - 2048 + p.val → vc (ix4 (0 : Fin 1) (0 : Fin 1) e p) = VC (ix4 b z hd e))
  (hkn : ∀ e (u : Fin 128) (s : Fin 8), u.val = 8 * r.val + s.val → kn (ix3 (0 : Fin 1) e u) = KN (ix4 b s hd e))
  (hvn : ∀ e (u : Fin 128) (s : Fin 8), u.val = 8 * r.val + s.val → vn (ix3 (0 : Fin 1) e u) = VN (ix4 b s hd e))

omit hw in
include hkc in
/-- A cached key's row. -/
theorem cachedRow2048 (e : Fin 64) (j : Fin 129) (p : Fin 2048) (h1 : t.val < 16 * j.val) (h2 : p.val = 2048 + t.val - 16 * j.val) :
    kc (ix4 (0 : Fin 1) (0 : Fin 1) e p) = row KN KC 16 b t hd j e := by
  have hj := j.isLt
  unfold row
  rw [dif_neg (by omega)]
  exact hkc e p _ (show 2048 + t.val - 16 * j.val = 2048 - 2048 + p.val by omega)

omit hw in
include hkn in
/-- A new key's row. -/
theorem freshRow2048 (e : Fin 64) (j : Fin 129) (u : Fin 128) (h1 : 16 * j.val ≤ t.val) (h2 : u.val = 8 * r.val + (t.val - 16 * j.val)) :
    kn (ix3 (0 : Fin 1) e u) = row KN KC 16 b t hd j e := by
  unfold row
  rw [dif_pos h1]
  exact hkn e u _ h2

include hw hq hkc hvc hkn hvn in
/-- The group's row. -/
theorem group2048 :
    top2048 (scoreC2048 q kc) (scoreN (maskN 15#32 w) q kn) (ix2 t (0 : Fin 1)) = lg * rowMax (score Q KN KC 16 b t hd)
    ∧ norm2048 (scoreC2048 q kc) (scoreN (maskN 15#32 w) q kn) (ix2 t (0 : Fin 1)) = rowSum (score Q KN KC 16 b t hd)
    ∧ mixed2048 (scoreC2048 q kc) (scoreN (maskN 15#32 w) q kn) vc vn (ix2 t e)
      = rowOut (score Q KN KC 16 b t hd) fun j => row VN VC 16 b t hd j e := by
  have hg := RowKeys.group (win := 2048) (dil := 16) (off := 8 * r.val) (t := t.val) (by norm_num) (by norm_num) t.isLt (by omega)
    (score Q KN KC 16 b t hd) (fun j => row VN VC 16 b t hd j e)
    (fun p => scoreC2048 q kc (ix2 t p)) (fun p => vc (ix4 (0 : Fin 1) (0 : Fin 1) e p))
    (fun u => scoreN (maskN 15#32 w) q kn (ix2 t u)) (fun u => vn (ix3 (0 : Fin 1) e u))
    (fun j p h1 h2 h3 => by
      constructor
      · show scoreC2048 q kc (ix2 t p) = _
        rw [scoreC2048_apply, (maskC2048_apply t p).2 h3, pick_one]
        exact scaled Q KN KC 16 b t hd j _ _ hq fun e => cachedRow2048 KN KC b t hd kc hkc e j p h1 h2
      · exact cachedRow2048 VN VC b t hd vc hvc e j p h1 h2)
    (fun j u h1 h2 h3 => by
      constructor
      · show scoreN _ q kn (ix2 t u) = _
        rw [scoreN_apply, (maskN2048_apply r w hw t u).2 h3, pick_one]
        exact scaled Q KN KC 16 b t hd j _ _ hq fun e => freshRow2048 KN KC b t hd r kn hkn e j u h1 h2
      · exact freshRow2048 VN VC b t hd r vn hvn e j u h1 h2)
    (fun p h => by
      show scoreC2048 q kc (ix2 t p) = _
      rw [scoreC2048_apply, eq_zero_of_ne_one fun h' => h ((maskC2048_apply t p).1 h'), pick_zero])
    (fun u h => by
      show scoreN _ q kn (ix2 t u) = _
      rw [scoreN_apply, eq_zero_of_ne_one fun h' => h ((maskN2048_apply r w hw t u).1 h'), pick_zero])
  have ht : top2048 (scoreC2048 q kc) (scoreN (maskN 15#32 w) q kn) (ix2 t (0 : Fin 1)) = lg * rowMax (score Q KN KC 16 b t hd) := by
    pointwise [top2048]
    rw [negInf]
    exact hg.1
  refine ⟨ht, ?_, ?_⟩
  · pointwise [norm2048, weightC2048, weightN2048]
    rw [ht]
    exact hg.2.1 _
  · pointwise [mixed2048, weightC2048, weightN2048, cached2048, fresh]
    rw [ht]
    exact hg.2.2 _

end

end Cert.KernelIdeal.Head

end
-- ==== Proof.Blocks.lean ====
/- The blocks of the decode attention's windows, read as elements of the arrays the call is given. -/
module

public import proofs.«01_k».proof.Proof.DecSpec
public import proofs.«01_k».proof.Proof.Gen.KernelIdeal.Value
import Idealize.ShloMosaic.Lib.Pointwise
import Idealize.ShloMosaic.Lib.Pipeline.ValueKit
import Idealize.ShloMosaic.Lib.Claim

@[expose] public section

set_option maxRecDepth 16384

noncomputable section

namespace Cert.KernelIdeal.Blocks

open Cert.KernelIdeal Cert.KernelIdeal.Gen Idealize.ShloMosaic Idealize.ShloMosaic.TcCoe Idealize.SL.Sem

/-- The windows' block indices: grid point `t` is sequence `t / 2`, heads `8 * (t % 2) ..` of each group. -/
theorem idx : ∀ t : Fin cfg0.N,
    win0_0.index t = ![t.val / 2, 0, 0, 0] ∧ win0_1.index t = ![0, 0, t.val / 32] ∧ win0_2.index t = ![0, 0, t.val / 32]
    ∧ win0_3.index t = ![t.val / 2, t.val % 2, 0, 15] ∧ win0_4.index t = ![t.val / 2, t.val % 2, 0, 15]
    ∧ win0_5.index t = ![t.val / 2, 2 + t.val % 2, 0, 3] ∧ win0_6.index t = ![t.val / 2, 2 + t.val % 2, 0, 3]
    ∧ win0_7.index t = ![t.val / 2, 4 + t.val % 2, 0, 0] ∧ win0_8.index t = ![t.val / 2, 4 + t.val % 2, 0, 0]
    ∧ win0_9.index t = ![t.val / 2, t.val % 2, 0, 0] ∧ t.val / 2 < 32 ∧ t.val / 32 < 2
    ∧ (grid0.coords t 0).val = t.val / 2 ∧ (grid0.coords t 1).val = t.val % 2 := (by decide +kernel : ∀ t : Fin grid0.N, _)

variable (m : (ℓ : Loc nD τ sig) → Buf (Elt Ideal) ℓ) (c : Dev nD) (t : Fin cfg0.N)

/-- The queries. -/
theorem queries (b : Fin 32) (hb : b.val = t.val / 2) (h : Fin 48) (s : Fin 8) (e : Fin 64) :
    iblk m c 0 t (ix4 (0 : Fin 1) h s e) = m ((c : Thread nD τ).loc main_arg0) (ix4 b s h e) := by
  have hd := idx t
  blk_simp [iblk, idx t]
  entry_read
  pointwise
  blk_ext [idx t]

/-- Window 1. -/
theorem newKeys (b : Fin 32) (hb : b.val = t.val / 2) (h : Fin 48) (s : Fin 8) (e : Fin 64) (u : Fin 128) (hu : u.val = 8 * (b.val % 16) + s.val) :
    iblk m c 1 t (ix3 h e u) = m ((c : Thread nD τ).loc main_arg1) (ix4 b s h e) := by
  have hd := idx t
  blk_simp [iblk, idx t]
  entry_read
  pointwise
  blk_ext [idx t]

/-- Window 2. -/
theorem newValues (b : Fin 32) (hb : b.val = t.val / 2) (h : Fin 48) (s : Fin 8) (e : Fin 64) (u : Fin 128) (hu : u.val = 8 * (b.val % 16) + s.val) :
    iblk m c 2 t (ix3 h e u) = m ((c : Thread nD τ).loc main_arg2) (ix4 b s h e) := by
  have hd := idx t
  blk_simp [iblk, idx t]
  entry_read
  pointwise
  blk_ext [idx t]

/-- Window 3. -/
theorem cache3 (b : Fin 32) (hb : b.val = t.val / 2) (hh : Fin 8) (hd : Fin 48) (hhd : hd.val = 0 + (t.val % 2) * 8 + hh.val) (e : Fin 64) (p : Fin 128) (z : Fin 2048) (hz : z.val = 2048 - 128 + p.val) :
    iblk m c 3 t (ix4 (0 : Fin 1) hh e p) = m ((c : Thread nD τ).loc main_arg3) (ix4 b z hd e) := by
  have hd := idx t
  blk_simp [iblk, idx t]
  entry_read
  pointwise
  blk_ext [idx t]

/-- Window 4. -/
theorem cache4 (b : Fin 32) (hb : b.val = t.val / 2) (hh : Fin 8) (hd : Fin 48) (hhd : hd.val = 0 + (t.val % 2) * 8 + hh.val) (e : Fin 64) (p : Fin 128) (z : Fin 2048) (hz : z.val = 2048 - 128 + p.val) :
    iblk m c 4 t (ix4 (0 : Fin 1) hh e p) = m ((c : Thread nD τ).loc main_arg4) (ix4 b z hd e) := by
  have hd := idx t
  blk_simp [iblk, idx t]
  entry_read
  pointwise
  blk_ext [idx t]

/-- Window 5. -/
theorem cache5 (b : Fin 32) (hb : b.val = t.val / 2) (hh : Fin 8) (hd : Fin 48) (hhd : hd.val = 16 + (t.val % 2) * 8 + hh.val) (e : Fin 64) (p : Fin 512) (z : Fin 2048) (hz : z.val = 2048 - 512 + p.val) :
    iblk m c 5 t (ix4 (0 : Fin 1) hh e p) = m ((c : Thread nD τ).loc main_arg3) (ix4 b z hd e) := by
  have hd := idx t
  blk_simp [iblk, idx t]
  entry_read
  pointwise
  blk_ext [idx t]

/-- Window 6. -/
theorem cache6 (b : Fin 32) (hb : b.val = t.val / 2) (hh : Fin 8) (hd : Fin 48) (hhd : hd.val = 16 + (t.val % 2) * 8 + hh.val) (e : Fin 64) (p : Fin 512) (z : Fin 2048) (hz : z.val = 2048 - 512 + p.val) :
    iblk m c 6 t (ix4 (0 : Fin 1) hh e p) = m ((c : Thread nD τ).loc main_arg4) (ix4 b z hd e) := by
  have hd := idx t
  blk_simp [iblk, idx t]
  entry_read
  pointwise
  blk_ext [idx t]

/-- Window 7. -/
theorem cache7 (b : Fin 32) (hb : b.val = t.val / 2) (hh : Fin 8) (hd : Fin 48) (hhd : hd.val = 32 + (t.val % 2) * 8 + hh.val) (e : Fin 64) (p : Fin 2048) (z : Fin 2048) (hz : z.val = 2048 - 2048 + p.val) :
    iblk m c 7 t (ix4 (0 : Fin 1) hh e p) = m ((c : Thread nD τ).loc main_arg3) (ix4 b z hd e) := by
  have hd := idx t
  blk_simp [iblk, idx t]
  entry_read
  pointwise
  blk_ext [idx t]

/-- Window 8. -/
theorem cache8 (b : Fin 32) (hb : b.val = t.val / 2) (hh : Fin 8) (hd : Fin 48) (hhd : hd.val = 32 + (t.val % 2) * 8 + hh.val) (e : Fin 64) (p : Fin 2048) (z : Fin 2048) (hz : z.val = 2048 - 2048 + p.val) :
    iblk m c 8 t (ix4 (0 : Fin 1) hh e p) = m ((c : Thread nD τ).loc main_arg4) (ix4 b z hd e) := by
  have hd := idx t
  blk_simp [iblk, idx t]
  entry_read
  pointwise
  blk_ext [idx t]

end Cert.KernelIdeal.Blocks

end
-- ==== Proof.Loads.lean ====
/- What the decode attention's body loads for one head: rows of the query block, of the new rows and of the
   cached blocks, as elements of the arrays the call is given. -/
module

public import proofs.«01_k».proof.Proof.Blocks
import Idealize.ShloMosaic.Lib.Pointwise
import Idealize.ShloMosaic.Lib.Pipeline.ValueKit
import Idealize.ShloMosaic.Lib.Claim

@[expose] public section

set_option maxRecDepth 16384

noncomputable section

namespace Cert.KernelIdeal.Loads

open Cert.KernelIdeal Cert.KernelIdeal.Gen Idealize.ShloMosaic Idealize.ShloMosaic.TcCoe Idealize.SL.Sem

/-- Where the query of head `hh` of group `g` begins in its block. -/
theorem off1 : ∀ (t : Fin cfg0.N) (g : Fin 3) (hh : Fin 8),
    k0_off1 (grid0.coords t) (BitVec.ofNat 32 (16 * g.val)) (BitVec.ofNat 32 hh.val) = ![0, 16 * g.val + t.val % 2 * 8 + hh.val, 0, 0] :=
  (by decide +kernel : ∀ (t : Fin grid0.N) (g : Fin 3) (hh : Fin 8),
    k0_off1 (grid0.coords t) (BitVec.ofNat 32 (16 * g.val)) (BitVec.ofNat 32 hh.val) = ![0, 16 * g.val + t.val % 2 * 8 + hh.val, 0, 0])

/-- Where the new rows of head `hh` of group `g` begin in their block. -/
theorem off2 : ∀ (t : Fin cfg0.N) (g : Fin 3) (hh : Fin 8),
    k0_off2 (grid0.coords t) (BitVec.ofNat 32 (16 * g.val)) (BitVec.ofNat 32 hh.val) = ![16 * g.val + t.val % 2 * 8 + hh.val, 0, 0] :=
  (by decide +kernel : ∀ (t : Fin grid0.N) (g : Fin 3) (hh : Fin 8),
    k0_off2 (grid0.coords t) (BitVec.ofNat 32 (16 * g.val)) (BitVec.ofNat 32 hh.val) = ![16 * g.val + t.val % 2 * 8 + hh.val, 0, 0])

/-- The columns counted from the sequence's first new row. -/
theorem column : ∀ (t : Fin cfg0.N) (u : Fin 128),
    k0_pay2 (grid0.coords t) (ix2 (0 : Fin 1) u) = IntOp.subi (BitVec.ofNat 32 u.val) (BitVec.ofNat 32 (8 * (t.val / 2 % 16))) :=
  (by decide +kernel : ∀ (t : Fin grid0.N) (u : Fin 128),
    k0_pay2 (grid0.coords t) (ix2 (0 : Fin 1) u) = IntOp.subi (BitVec.ofNat 32 u.val) (BitVec.ofNat 32 (8 * (t.val / 2 % 16))))

variable (m : (ℓ : Loc nD τ sig) → Buf (Elt Ideal) ℓ) (c : Dev nD) (t : Fin cfg0.N)

theorem queries (g : Fin 3) (hh : Fin 8)
    (hfit : ∀ a, k0_off1 (grid0.coords t) (BitVec.ofNat 32 (16 * g.val)) (BitVec.ofNat 32 hh.val) a + (![1, 1, 8, 64] : Fin 4 → ℕ) a ≤ S1x48x8x64.size a)
    (b : Fin 32) (hb : b.val = t.val / 2) (hd : Fin 48) (hhd : hd.val = 16 * g.val + t.val % 2 * 8 + hh.val) (s : Fin 8) (e : Fin 64) :
    View.ld (Val := Elt Ideal) (e' := .f32) (iblk m c 0 t) (Rect.unit (s := S1x48x8x64) (k0_off1 (grid0.coords t) (BitVec.ofNat 32 (16 * g.val)) (BitVec.ofNat 32 hh.val)) ![1, 1, 8, 64] hfit)
      (ix4 (0 : Fin 1) (0 : Fin 1) s e) = m ((c : Thread nD τ).loc main_arg0) (ix4 b s hd e) := by
  rw [← Blocks.queries m c t b hb hd s e]
  refine View.ld_unit_apply_of _ _ _ _ _ (ix4 (0 : Fin 1) hd s e) ?_
  intro a
  refine Eq.trans ?_ (congrArg (fun z => z + _) (congrFun (off1 t g hh) a).symm)
  fin_cases a <;> simp [ix4, hhd]

theorem newKeys (g : Fin 3) (hh : Fin 8)
    (hfit : ∀ a, k0_off2 (grid0.coords t) (BitVec.ofNat 32 (16 * g.val)) (BitVec.ofNat 32 hh.val) a + (![1, 64, 128] : Fin 3 → ℕ) a ≤ S48x64x128.size a)
    (b : Fin 32) (hb : b.val = t.val / 2) (hd : Fin 48) (hhd : hd.val = 16 * g.val + t.val % 2 * 8 + hh.val) (s : Fin 8) (e : Fin 64)
    (u : Fin 128) (hu : u.val = 8 * (b.val % 16) + s.val) :
    View.ld (Val := Elt Ideal) (e' := .f32) (iblk m c 1 t) (Rect.unit (s := S48x64x128) (k0_off2 (grid0.coords t) (BitVec.ofNat 32 (16 * g.val)) (BitVec.ofNat 32 hh.val)) ![1, 64, 128] hfit)
      (ix3 (0 : Fin 1) e u) = m ((c : Thread nD τ).loc main_arg1) (ix4 b s hd e) := by
  rw [← Blocks.newKeys m c t b hb hd s e u hu]
  refine View.ld_unit_apply_of _ _ _ _ _ (ix3 hd e u) ?_
  intro a
  refine Eq.trans ?_ (congrArg (fun z => z + _) (congrFun (off2 t g hh) a).symm)
  fin_cases a <;> simp [ix3, hhd]

theorem newValues (g : Fin 3) (hh : Fin 8)
    (hfit : ∀ a, k0_off2 (grid0.coords t) (BitVec.ofNat 32 (16 * g.val)) (BitVec.ofNat 32 hh.val) a + (![1, 64, 128] : Fin 3 → ℕ) a ≤ S48x64x128.size a)
    (b : Fin 32) (hb : b.val = t.val / 2) (hd : Fin 48) (hhd : hd.val = 16 * g.val + t.val % 2 * 8 + hh.val) (s : Fin 8) (e : Fin 64)
    (u : Fin 128) (hu : u.val = 8 * (b.val % 16) + s.val) :
    View.ld (Val := Elt Ideal) (e' := .f32) (iblk m c 2 t) (Rect.unit (s := S48x64x128) (k0_off2 (grid0.coords t) (BitVec.ofNat 32 (16 * g.val)) (BitVec.ofNat 32 hh.val)) ![1, 64, 128] hfit)
      (ix3 (0 : Fin 1) e u) = m ((c : Thread nD τ).loc main_arg2) (ix4 b s hd e) := by
  rw [← Blocks.newValues m c t b hb hd s e u hu]
  refine View.ld_unit_apply_of _ _ _ _ _ (ix3 hd e u) ?_
  intro a
  refine Eq.trans ?_ (congrArg (fun z => z + _) (congrFun (off2 t g hh) a).symm)
  fin_cases a <;> simp [ix3, hhd]

theorem cache3 (hh : Fin 8) (hfit : ∀ a, (![0, hh.val, 0, 0] : Fin 4 → ℕ) a + (![1, 1, 64, 128] : Fin 4 → ℕ) a ≤ S1x8x64x128.size a)
    (b : Fin 32) (hb : b.val = t.val / 2) (hd : Fin 48) (hhd : hd.val = 0 + t.val % 2 * 8 + hh.val) (e : Fin 64) (p : Fin 128) (z : Fin 2048) (hz : z.val = 2048 - 128 + p.val) :
    View.ld (Val := Elt Ideal) (e' := .f32) (iblk m c 3 t) (Rect.unit (s := S1x8x64x128) ![0, hh.val, 0, 0] ![1, 1, 64, 128] hfit) (ix4 (0 : Fin 1) (0 : Fin 1) e p)
      = m ((c : Thread nD τ).loc main_arg3) (ix4 b z hd e) := by
  rw [← Blocks.cache3 m c t b hb hh hd hhd e p z hz]
  refine View.ld_unit_apply_of _ _ _ _ _ (ix4 (0 : Fin 1) hh e p) ?_
  intro a
  fin_cases a <;> simp [ix4]

theorem cache4 (hh : Fin 8) (hfit : ∀ a, (![0, hh.val, 0, 0] : Fin 4 → ℕ) a + (![1, 1, 64, 128] : Fin 4 → ℕ) a ≤ S1x8x64x128.size a)
    (b : Fin 32) (hb : b.val = t.val / 2) (hd : Fin 48) (hhd : hd.val = 0 + t.val % 2 * 8 + hh.val) (e : Fin 64) (p : Fin 128) (z : Fin 2048) (hz : z.val = 2048 - 128 + p.val) :
    View.ld (Val := Elt Ideal) (e' := .f32) (iblk m c 4 t) (Rect.unit (s := S1x8x64x128) ![0, hh.val, 0, 0] ![1, 1, 64, 128] hfit) (ix4 (0 : Fin 1) (0 : Fin 1) e p)
      = m ((c : Thread nD τ).loc main_arg4) (ix4 b z hd e) := by
  rw [← Blocks.cache4 m c t b hb hh hd hhd e p z hz]
  refine View.ld_unit_apply_of _ _ _ _ _ (ix4 (0 : Fin 1) hh e p) ?_
  intro a
  fin_cases a <;> simp [ix4]

theorem cache5 (hh : Fin 8) (hfit : ∀ a, (![0, hh.val, 0, 0] : Fin 4 → ℕ) a + (![1, 1, 64, 512] : Fin 4 → ℕ) a ≤ S1x8x64x512.size a)
    (b : Fin 32) (hb : b.val = t.val / 2) (hd : Fin 48) (hhd : hd.val = 16 + t.val % 2 * 8 + hh.val) (e : Fin 64) (p : Fin 512) (z : Fin 2048) (hz : z.val = 2048 - 512 + p.val) :
    View.ld (Val := Elt Ideal) (e' := .f32) (iblk m c 5 t) (Rect.unit (s := S1x8x64x512) ![0, hh.val, 0, 0] ![1, 1, 64, 512] hfit) (ix4 (0 : Fin 1) (0 : Fin 1) e p)
      = m ((c : Thread nD τ).loc main_arg3) (ix4 b z hd e) := by
  rw [← Blocks.cache5 m c t b hb hh hd hhd e p z hz]
  refine View.ld_unit_apply_of _ _ _ _ _ (ix4 (0 : Fin 1) hh e p) ?_
  intro a
  fin_cases a <;> simp [ix4]

theorem cache6 (hh : Fin 8) (hfit : ∀ a, (![0, hh.val, 0, 0] : Fin 4 → ℕ) a + (![1, 1, 64, 512] : Fin 4 → ℕ) a ≤ S1x8x64x512.size a)
    (b : Fin 32) (hb : b.val = t.val / 2) (hd : Fin 48) (hhd : hd.val = 16 + t.val % 2 * 8 + hh.val) (e : Fin 64) (p : Fin 512) (z : Fin 2048) (hz : z.val = 2048 - 512 + p.val) :
    View.ld (Val := Elt Ideal) (e' := .f32) (iblk m c 6 t) (Rect.unit (s := S1x8x64x512) ![0, hh.val, 0, 0] ![1, 1, 64, 512] hfit) (ix4 (0 : Fin 1) (0 : Fin 1) e p)
      = m ((c : Thread nD τ).loc main_arg4) (ix4 b z hd e) := by
  rw [← Blocks.cache6 m c t b hb hh hd hhd e p z hz]
  refine View.ld_unit_apply_of _ _ _ _ _ (ix4 (0 : Fin 1) hh e p) ?_
  intro a
  fin_cases a <;> simp [ix4]

theorem cache7 (hh : Fin 8) (hfit : ∀ a, (![0, hh.val, 0, 0] : Fin 4 → ℕ) a + (![1, 1, 64, 2048] : Fin 4 → ℕ) a ≤ S1x8x64x2048.size a)
    (b : Fin 32) (hb : b.val = t.val / 2) (hd : Fin 48) (hhd : hd.val = 32 + t.val % 2 * 8 + hh.val) (e : Fin 64) (p : Fin 2048) (z : Fin 2048) (hz : z.val = 2048 - 2048 + p.val) :
    View.ld (Val := Elt Ideal) (e' := .f32) (iblk m c 7 t) (Rect.unit (s := S1x8x64x2048) ![0, hh.val, 0, 0] ![1, 1, 64, 2048] hfit) (ix4 (0 : Fin 1) (0 : Fin 1) e p)
      = m ((c : Thread nD τ).loc main_arg3) (ix4 b z hd e) := by
  rw [← Blocks.cache7 m c t b hb hh hd hhd e p z hz]
  refine View.ld_unit_apply_of _ _ _ _ _ (ix4 (0 : Fin 1) hh e p) ?_
  intro a
  fin_cases a <;> simp [ix4]

theorem cache8 (hh : Fin 8) (hfit : ∀ a, (![0, hh.val, 0, 0] : Fin 4 → ℕ) a + (![1, 1, 64, 2048] : Fin 4 → ℕ) a ≤ S1x8x64x2048.size a)
    (b : Fin 32) (hb : b.val = t.val / 2) (hd : Fin 48) (hhd : hd.val = 32 + t.val % 2 * 8 + hh.val) (e : Fin 64) (p : Fin 2048) (z : Fin 2048) (hz : z.val = 2048 - 2048 + p.val) :
    View.ld (Val := Elt Ideal) (e' := .f32) (iblk m c 8 t) (Rect.unit (s := S1x8x64x2048) ![0, hh.val, 0, 0] ![1, 1, 64, 2048] hfit) (ix4 (0 : Fin 1) (0 : Fin 1) e p)
      = m ((c : Thread nD τ).loc main_arg4) (ix4 b z hd e) := by
  rw [← Blocks.cache8 m c t b hb hh hd hhd e p z hz]
  refine View.ld_unit_apply_of _ _ _ _ _ (ix4 (0 : Fin 1) hh e p) ?_
  intro a
  fin_cases a <;> simp [ix4]

end Cert.KernelIdeal.Loads

end
-- ==== Proof.HeadLoaded.lean ====
/- One head of a grid point of the decode attention: from the rows its body loads, the specified output. -/
module

public import proofs.«01_k».proof.Proof.HeadValue
public import proofs.«01_k».proof.Proof.Loads
import Idealize.ShloMosaic.Lib.Pointwise
import Idealize.ShloMosaic.Lib.Pipeline.ValueKit
import Idealize.ShloMosaic.Lib.Claim

@[expose] public section

set_option maxRecDepth 16384

noncomputable section

namespace Cert.KernelIdeal.HeadLoaded

open Cert.KernelIdeal Cert.KernelIdeal.Gen Idealize.ShloMosaic Idealize.ShloMosaic.TcCoe Idealize.SL.Sem
open Cert.DecSpec Cert.RowMath Cert.RowKeys Cert.KernelIdeal.Head

/-- One head, from rows that are the arrays' rows. -/
theorem head_value (Q KN VN : New) (KC VC : Cache) (b : Fin 32) (h : Fin 16) (r : Fin 16) (w : IVec S1x128 32) (hw : At r w)
    (q0 q1 q2 : Vec Ideal S1x1x8x64 .f32)
    (kc0 vc0 : Vec Ideal S1x1x64x128 .f32) (kc1 vc1 : Vec Ideal S1x1x64x512 .f32) (kc2 vc2 : Vec Ideal S1x1x64x2048 .f32)
    (kn0 vn0 kn1 vn1 kn2 vn2 : Vec Ideal S1x64x128 .f32)
    (hq0 : ∀ t e, q0 (ix4 (0 : Fin 1) (0 : Fin 1) t e) = Q (ix4 b t (headOf 0 h) e))
    (hkc0 : ∀ e (p : Fin 128) (z : Fin 2048), z.val = 2048 - 128 + p.val → kc0 (ix4 (0 : Fin 1) (0 : Fin 1) e p) = KC (ix4 b z (headOf 0 h) e))
    (hvc0 : ∀ e (p : Fin 128) (z : Fin 2048), z.val = 2048 - 128 + p.val → vc0 (ix4 (0 : Fin 1) (0 : Fin 1) e p) = VC (ix4 b z (headOf 0 h) e))
    (hkn0 : ∀ e (u : Fin 128) (s : Fin 8), u.val = 8 * r.val + s.val → kn0 (ix3 (0 : Fin 1) e u) = KN (ix4 b s (headOf 0 h) e))
    (hvn0 : ∀ e (u : Fin 128) (s : Fin 8), u.val = 8 * r.val + s.val → vn0 (ix3 (0 : Fin 1) e u) = VN (ix4 b s (headOf 0 h) e))
    (hq1 : ∀ t e, q1 (ix4 (0 : Fin 1) (0 : Fin 1) t e) = Q (ix4 b t (headOf 1 h) e))
    (hkc1 : ∀ e (p : Fin 512) (z : Fin 2048), z.val = 2048 - 512 + p.val → kc1 (ix4 (0 : Fin 1) (0 : Fin 1) e p) = KC (ix4 b z (headOf 1 h) e))
    (hvc1 : ∀ e (p : Fin 512) (z : Fin 2048), z.val = 2048 - 512 + p.val → vc1 (ix4 (0 : Fin 1) (0 : Fin 1) e p) = VC (ix4 b z (headOf 1 h) e))
    (hkn1 : ∀ e (u : Fin 128) (s : Fin 8), u.val = 8 * r.val + s.val → kn1 (ix3 (0 : Fin 1) e u) = KN (ix4 b s (headOf 1 h) e))
    (hvn1 : ∀ e (u : Fin 128) (s : Fin 8), u.val = 8 * r.val + s.val → vn1 (ix3 (0 : Fin 1) e u) = VN (ix4 b s (headOf 1 h) e))
    (hq2 : ∀ t e, q2 (ix4 (0 : Fin 1) (0 : Fin 1) t e) = Q (ix4 b t (headOf 2 h) e))
    (hkc2 : ∀ e (p : Fin 2048) (z : Fin 2048), z.val = 2048 - 2048 + p.val → kc2 (ix4 (0 : Fin 1) (0 : Fin 1) e p) = KC (ix4 b z (headOf 2 h) e))
    (hvc2 : ∀ e (p : Fin 2048) (z : Fin 2048), z.val = 2048 - 2048 + p.val → vc2 (ix4 (0 : Fin 1) (0 : Fin 1) e p) = VC (ix4 b z (headOf 2 h) e))
    (hkn2 : ∀ e (u : Fin 128) (s : Fin 8), u.val = 8 * r.val + s.val → kn2 (ix3 (0 : Fin 1) e u) = KN (ix4 b s (headOf 2 h) e))
    (hvn2 : ∀ e (u : Fin 128) (s : Fin 8), u.val = 8 * r.val + s.val → vn2 (ix3 (0 : Fin 1) e u) = VN (ix4 b s (headOf 2 h) e))
    (t : Fin 8) (e : Fin 64) :
    head w q0 q1 q2 kc0 vc0 kc1 vc1 kc2 vc2 kn0 vn0 kn1 vn1 kn2 vn2 (ix4 (0 : Fin 1) (0 : Fin 1) t e) = out Q KN VN KC VC b h t e := by
  unfold head DecSpec.out
  refine merged_apply _ _ _ _ _ _ _ _ _ _ _ _ t e ?_ ?_ ?_
  · exact group128 Q KN VN KC VC b t (headOf 0 h) e r w hw q0 kc0 vc0 kn0 vn0 (hq0 t) hkc0 hvc0 hkn0 hvn0
  · exact group512 Q KN VN KC VC b t (headOf 1 h) e r w hw q1 kc1 vc1 kn1 vn1 (hq1 t) hkc1 hvc1 hkn1 hvn1
  · exact group2048 Q KN VN KC VC b t (headOf 2 h) e r w hw q2 kc2 vc2 kn2 vn2 (hq2 t) hkc2 hvc2 hkn2 hvn2

variable (m : (ℓ : Loc nD τ sig) → Buf (Elt Ideal) ℓ) (c : Dev nD) (t : Fin cfg0.N)

/-- Head `hh` of the grid point, from the rows the body loads. -/
theorem head_loaded (b : Fin 32) (hb : b.val = t.val / 2) (hh : Fin 8) (h : Fin 16) (hhh : h.val = t.val % 2 * 8 + hh.val)
    (fq0 : ∀ a, k0_off1 (grid0.coords t) (BitVec.ofNat 32 (16 * (0 : Fin 3).val)) (BitVec.ofNat 32 hh.val) a + (![1, 1, 8, 64] : Fin 4 → ℕ) a ≤ S1x48x8x64.size a)
    (fq1 : ∀ a, k0_off1 (grid0.coords t) (BitVec.ofNat 32 (16 * (1 : Fin 3).val)) (BitVec.ofNat 32 hh.val) a + (![1, 1, 8, 64] : Fin 4 → ℕ) a ≤ S1x48x8x64.size a)
    (fq2 : ∀ a, k0_off1 (grid0.coords t) (BitVec.ofNat 32 (16 * (2 : Fin 3).val)) (BitVec.ofNat 32 hh.val) a + (![1, 1, 8, 64] : Fin 4 → ℕ) a ≤ S1x48x8x64.size a)
    (f3 : ∀ a, (![0, hh.val, 0, 0] : Fin 4 → ℕ) a + (![1, 1, 64, 128] : Fin 4 → ℕ) a ≤ S1x8x64x128.size a)
    (f4 : ∀ a, (![0, hh.val, 0, 0] : Fin 4 → ℕ) a + (![1, 1, 64, 128] : Fin 4 → ℕ) a ≤ S1x8x64x128.size a)
    (f5 : ∀ a, (![0, hh.val, 0, 0] : Fin 4 → ℕ) a + (![1, 1, 64, 512] : Fin 4 → ℕ) a ≤ S1x8x64x512.size a)
    (f6 : ∀ a, (![0, hh.val, 0, 0] : Fin 4 → ℕ) a + (![1, 1, 64, 512] : Fin 4 → ℕ) a ≤ S1x8x64x512.size a)
    (f7 : ∀ a, (![0, hh.val, 0, 0] : Fin 4 → ℕ) a + (![1, 1, 64, 2048] : Fin 4 → ℕ) a ≤ S1x8x64x2048.size a)
    (f8 : ∀ a, (![0, hh.val, 0, 0] : Fin 4 → ℕ) a + (![1, 1, 64, 2048] : Fin 4 → ℕ) a ≤ S1x8x64x2048.size a)
    (fk0 : ∀ a, k0_off2 (grid0.coords t) (BitVec.ofNat 32 (16 * (0 : Fin 3).val)) (BitVec.ofNat 32 hh.val) a + (![1, 64, 128] : Fin 3 → ℕ) a ≤ S48x64x128.size a)
    (fv0 : ∀ a, k0_off2 (grid0.coords t) (BitVec.ofNat 32 (16 * (0 : Fin 3).val)) (BitVec.ofNat 32 hh.val) a + (![1, 64, 128] : Fin 3 → ℕ) a ≤ S48x64x128.size a)
    (fk1 : ∀ a, k0_off2 (grid0.coords t) (BitVec.ofNat 32 (16 * (1 : Fin 3).val)) (BitVec.ofNat 32 hh.val) a + (![1, 64, 128] : Fin 3 → ℕ) a ≤ S48x64x128.size a)
    (fv1 : ∀ a, k0_off2 (grid0.coords t) (BitVec.ofNat 32 (16 * (1 : Fin 3).val)) (BitVec.ofNat 32 hh.val) a + (![1, 64, 128] : Fin 3 → ℕ) a ≤ S48x64x128.size a)
    (fk2 : ∀ a, k0_off2 (grid0.coords t) (BitVec.ofNat 32 (16 * (2 : Fin 3).val)) (BitVec.ofNat 32 hh.val) a + (![1, 64, 128] : Fin 3 → ℕ) a ≤ S48x64x128.size a)
    (fv2 : ∀ a, k0_off2 (grid0.coords t) (BitVec.ofNat 32 (16 * (2 : Fin 3).val)) (BitVec.ofNat 32 hh.val) a + (![1, 64, 128] : Fin 3 → ℕ) a ≤ S48x64x128.size a)
    (x : S1x1x8x64.Idx) (s : Fin 8) (hs : s.val = (x 2).val) (e : Fin 64) (he : e.val = (x 3).val) :
    head (k0_pay2 (grid0.coords t))
      (View.ld (Val := Elt Ideal) (e' := .f32) (iblk m c 0 t) (Rect.unit (s := S1x48x8x64) (k0_off1 (grid0.coords t) (BitVec.ofNat 32 (16 * (0 : Fin 3).val)) (BitVec.ofNat 32 hh.val)) ![1, 1, 8, 64] fq0))
      (View.ld (Val := Elt Ideal) (e' := .f32) (iblk m c 0 t) (Rect.unit (s := S1x48x8x64) (k0_off1 (grid0.coords t) (BitVec.ofNat 32 (16 * (1 : Fin 3).val)) (BitVec.ofNat 32 hh.val)) ![1, 1, 8, 64] fq1))
      (View.ld (Val := Elt Ideal) (e' := .f32) (iblk m c 0 t) (Rect.unit (s := S1x48x8x64) (k0_off1 (grid0.coords t) (BitVec.ofNat 32 (16 * (2 : Fin 3).val)) (BitVec.ofNat 32 hh.val)) ![1, 1, 8, 64] fq2))
      (View.ld (Val := Elt Ideal) (e' := .f32) (iblk m c 3 t) (Rect.unit (s := S1x8x64x128) ![0, hh.val, 0, 0] ![1, 1, 64, 128] f3))
      (View.ld (Val := Elt Ideal) (e' := .f32) (iblk m c 4 t) (Rect.unit (s := S1x8x64x128) ![0, hh.val, 0, 0] ![1, 1, 64, 128] f4))
      (View.ld (Val := Elt Ideal) (e' := .f32) (iblk m c 5 t) (Rect.unit (s := S1x8x64x512) ![0, hh.val, 0, 0] ![1, 1, 64, 512] f5))
      (View.ld (Val := Elt Ideal) (e' := .f32) (iblk m c 6 t) (Rect.unit (s := S1x8x64x512) ![0, hh.val, 0, 0] ![1, 1, 64, 512] f6))
      (View.ld (Val := Elt Ideal) (e' := .f32) (iblk m c 7 t) (Rect.unit (s := S1x8x64x2048) ![0, hh.val, 0, 0] ![1, 1, 64, 2048] f7))
      (View.ld (Val := Elt Ideal) (e' := .f32) (iblk m c 8 t) (Rect.unit (s := S1x8x64x2048) ![0, hh.val, 0, 0] ![1, 1, 64, 2048] f8))
      (View.ld (Val := Elt Ideal) (e' := .f32) (iblk m c 1 t) (Rect.unit (s := S48x64x128) (k0_off2 (grid0.coords t) (BitVec.ofNat 32 (16 * (0 : Fin 3).val)) (BitVec.ofNat 32 hh.val)) ![1, 64, 128] fk0))
      (View.ld (Val := Elt Ideal) (e' := .f32) (iblk m c 2 t) (Rect.unit (s := S48x64x128) (k0_off2 (grid0.coords t) (BitVec.ofNat 32 (16 * (0 : Fin 3).val)) (BitVec.ofNat 32 hh.val)) ![1, 64, 128] fv0))
      (View.ld (Val := Elt Ideal) (e' := .f32) (iblk m c 1 t) (Rect.unit (s := S48x64x128) (k0_off2 (grid0.coords t) (BitVec.ofNat 32 (16 * (1 : Fin 3).val)) (BitVec.ofNat 32 hh.val)) ![1, 64, 128] fk1))
      (View.ld (Val := Elt Ideal) (e' := .f32) (iblk m c 2 t) (Rect.unit (s := S48x64x128) (k0_off2 (grid0.coords t) (BitVec.ofNat 32 (16 * (1 : Fin 3).val)) (BitVec.ofNat 32 hh.val)) ![1, 64, 128] fv1))
      (View.ld (Val := Elt Ideal) (e' := .f32) (iblk m c 1 t) (Rect.unit (s := S48x64x128) (k0_off2 (grid0.coords t) (BitVec.ofNat 32 (16 * (2 : Fin 3).val)) (BitVec.ofNat 32 hh.val)) ![1, 64, 128] fk2))
      (View.ld (Val := Elt Ideal) (e' := .f32) (iblk m c 2 t) (Rect.unit (s := S48x64x128) (k0_off2 (grid0.coords t) (BitVec.ofNat 32 (16 * (2 : Fin 3).val)) (BitVec.ofNat 32 hh.val)) ![1, 64, 128] fv2))
      x
    = out (m ((c : Thread nD τ).loc main_arg0)) (m ((c : Thread nD τ).loc main_arg1)) (m ((c : Thread nD τ).loc main_arg2))
        (m ((c : Thread nD τ).loc main_arg3)) (m ((c : Thread nD τ).loc main_arg4)) b h s e := by
  have hx : x = ix4 (0 : Fin 1) (0 : Fin 1) s e := by blk_ext []
  rw [hx]
  have hd : ∀ g : Fin 3, (headOf g h).val = 16 * g.val + t.val % 2 * 8 + hh.val := fun g => by
    show 16 * g.val + h.val = _
    omega
  refine head_value _ _ _ _ _ b h ⟨b.val % 16, Nat.mod_lt _ (by norm_num)⟩ _ (fun u => (Loads.column t u).trans (by rw [hb])) _ _ _ _ _ _ _ _ _ _ _ _ _ _ _

    (fun s e => Loads.queries m c t 0 hh fq0 b hb _ (hd 0) s e)
    (fun e p z hz => Loads.cache3 m c t hh f3 b hb _ ((hd 0).trans (by simp)) e p z hz) (fun e p z hz => Loads.cache4 m c t hh f4 b hb _ ((hd 0).trans (by simp)) e p z hz)
    (fun e u s hu => Loads.newKeys m c t 0 hh fk0 b hb _ (hd 0) s e u hu) (fun e u s hu => Loads.newValues m c t 0 hh fv0 b hb _ (hd 0) s e u hu)
    (fun s e => Loads.queries m c t 1 hh fq1 b hb _ (hd 1) s e)
    (fun e p z hz => Loads.cache5 m c t hh f5 b hb _ ((hd 1).trans (by simp)) e p z hz) (fun e p z hz => Loads.cache6 m c t hh f6 b hb _ ((hd 1).trans (by simp)) e p z hz)
    (fun e u s hu => Loads.newKeys m c t 1 hh fk1 b hb _ (hd 1) s e u hu) (fun e u s hu => Loads.newValues m c t 1 hh fv1 b hb _ (hd 1) s e u hu)
    (fun s e => Loads.queries m c t 2 hh fq2 b hb _ (hd 2) s e)
    (fun e p z hz => Loads.cache7 m c t hh f7 b hb _ ((hd 2).trans (by simp)) e p z hz) (fun e p z hz => Loads.cache8 m c t hh f8 b hb _ ((hd 2).trans (by simp)) e p z hz)
    (fun e u s hu => Loads.newKeys m c t 2 hh fk2 b hb _ (hd 2) s e u hu) (fun e u s hu => Loads.newValues m c t 2 hh fv2 b hb _ (hd 2) s e u hu) s e

end Cert.KernelIdeal.HeadLoaded

end
-- ==== Proof.Point.lean ====
/- What one grid point of the decode attention leaves: eight heads of one sequence, and with them the whole
   result. -/
module

public import proofs.«01_k».proof.Proof.HeadLoaded
import Idealize.ShloMosaic.Lib.Pointwise
import Idealize.ShloMosaic.Lib.Pipeline.ValueKit
import Idealize.ShloMosaic.Lib.Claim

@[expose] public section

set_option maxRecDepth 16384

noncomputable section

namespace Cert.KernelIdeal.Point

open Cert.KernelIdeal Cert.KernelIdeal.Gen Idealize.ShloMosaic Idealize.ShloMosaic.TcCoe Idealize.SL.Sem

variable (m : (ℓ : Loc nD τ sig) → Buf (Elt Ideal) ℓ) (c : Dev nD)

/-- The result, as the specification states it. -/
def value : S32x16x8x64.Idx → EReal := fun j =>
  Cert.DecSpec.out (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1) (j 2) (j 3)

set_option maxHeartbeats 2000000 in
/-- The block a grid point leaves. -/
theorem point (t : Fin cfg0.N) (y : S1x8x8x64.Idx) (b : Fin 32) (hb : b.val = t.val / 2) (h : Fin 16) (hh : h.val = t.val % 2 * 8 + (y 1).val)
    (s : Fin 8) (hs : s.val = (y 2).val) (e : Fin 64) (he : e.val = (y 3).val) :
    outsAt0 (F := Ideal) m c t y
    = Cert.DecSpec.out (m ((c : Thread nD τ).loc main_arg0)) (m ((c : Thread nD τ).loc main_arg1)) (m ((c : Thread nD τ).loc main_arg2))
        (m ((c : Thread nD τ).loc main_arg3)) (m ((c : Thread nD τ).loc main_arg4)) b h s e := by
  unfold outsAt0
  frame_out
  canon_tiles x hx
  all_goals
    refine Eq.trans (congrFun (g := Head.head (k0_pay2 (grid0.coords t)) ?_ ?_ ?_ ?_ ?_ ?_ ?_ ?_ ?_ ?_ ?_ ?_ ?_ ?_ ?_) ?_ x) ?_
    on_goal 16 =>
      open_payloads
      with_reducible unfold Head.head
      delta Head.merged Head.top128 Head.top512 Head.top2048 Head.norm128 Head.norm512 Head.norm2048 Head.mixed128 Head.mixed512 Head.mixed2048 Head.weightC128 Head.weightN128 Head.weightC512 Head.weightN512 Head.weightC2048 Head.weightN2048 Head.top128 Head.top512 Head.top2048 Head.scoreC128 Head.scoreC512 Head.scoreC2048 Head.scoreN Head.maskC128 Head.maskC512 Head.maskC2048 Head.maskN Head.cached128 Head.cached512 Head.cached2048 Head.fresh Head.query Head.step
      with_reducible exact rfl
  case piece0 => exact HeadLoaded.head_loaded m c t b hb 7 h (by simp; omega) _ _ _ _ _ _ _ _ _ _ _ _ _ _ _ x s (by omega) e (by omega)
  case piece1 => exact HeadLoaded.head_loaded m c t b hb 6 h (by simp; omega) _ _ _ _ _ _ _ _ _ _ _ _ _ _ _ x s (by omega) e (by omega)
  case piece2 => exact HeadLoaded.head_loaded m c t b hb 5 h (by simp; omega) _ _ _ _ _ _ _ _ _ _ _ _ _ _ _ x s (by omega) e (by omega)
  case piece3 => exact HeadLoaded.head_loaded m c t b hb 4 h (by simp; omega) _ _ _ _ _ _ _ _ _ _ _ _ _ _ _ x s (by omega) e (by omega)
  case piece4 => exact HeadLoaded.head_loaded m c t b hb 3 h (by simp; omega) _ _ _ _ _ _ _ _ _ _ _ _ _ _ _ x s (by omega) e (by omega)
  case piece5 => exact HeadLoaded.head_loaded m c t b hb 2 h (by simp; omega) _ _ _ _ _ _ _ _ _ _ _ _ _ _ _ x s (by omega) e (by omega)
  case piece6 => exact HeadLoaded.head_loaded m c t b hb 1 h (by simp; omega) _ _ _ _ _ _ _ _ _ _ _ _ _ _ _ x s (by omega) e (by omega)
  case piece7 => exact HeadLoaded.head_loaded m c t b hb 0 h (by simp; omega) _ _ _ _ _ _ _ _ _ _ _ _ _ _ _ x s (by omega) e (by omega)

/-- The result array after the run. -/
theorem final : (dats (F := Ideal) m 0 c).arrAt 9 (cfgs 0).N = value m c := by
  refine (dats m 0 c).arrAt_eq_of_covers 9 _ (by decide +kernel) fun t hf y => ?_
  have hi := Blocks.idx t
  blk_simp
  rw [after0_9]
  unfold value
  refine point m c t y _ ?_ _ ?_ _ ?_ _ ?_ <;> blk_simp [Blocks.idx t] <;> idx_bounds <;> omega

end Cert.KernelIdeal.Point

end
-- ==== Proof.FfnSpec.lean ====
/- The convolutional feed-forward layer, from its arguments: the normed and modulated rows, the up-projection, the
   causal convolution over three rows, the gated hidden columns and the result. -/
module

public import Mathlib.Data.EReal.Basic
public import Idealize.ShloMosaic.Lib.Pointwise

@[expose] public section

set_option maxRecDepth 16384

noncomputable section

namespace Cert.FfnSpec

open Idealize.ShloMosaic

/-- The layer's arguments: the hidden rows, the norm's weights, the modulation, the up-projection, the
    convolution's weights and bias, and the down-projection. -/
structure Args where
  h : (⟨3, ![2, 8192, 1024]⟩ : Shape).Idx → EReal
  g : (⟨1, ![1024]⟩ : Shape).Idx → EReal
  m : (⟨2, ![2, 6144]⟩ : Shape).Idx → EReal
  u : (⟨2, ![1024, 5632]⟩ : Shape).Idx → EReal
  w : (⟨2, ![3, 5632]⟩ : Shape).Idx → EReal
  b : (⟨1, ![5632]⟩ : Shape).Idx → EReal
  d : (⟨2, ![2816, 1024]⟩ : Shape).Idx → EReal

variable (A : Args)

/-- A normed row, scaled and shifted. -/
def normed (b : Fin 2) (t : Fin 8192) (d : Fin 1024) : EReal :=
  A.h (ix3 b t d) * Ideal.rsqrt (Ideal.div (∑ e, A.h (ix3 b t e) * A.h (ix3 b t e)) (Ideal.ofBits FTy.f32 1149239296#32)
      + Ideal.ofBits FTy.f32 897988541#32) * A.g (ix1 d)
    * (1 + A.m (ix2 b ⟨4096 + d.val, by omega⟩)) + A.m (ix2 b ⟨3072 + d.val, by omega⟩)

/-- The up-projection. -/
def up (b : Fin 2) (t : Fin 8192) (k : Fin 5632) : EReal := ∑ d, normed A b t d * A.u (ix2 d k)

/-- The up-projection `s` rows earlier, zero before the first row. -/
def past (s : ℕ) (b : Fin 2) (t : Fin 8192) (k : Fin 5632) : EReal :=
  if t.val < s then 0 else up A b ⟨t.val - s, by omega⟩ k

/-- The causal convolution. -/
def conv (b : Fin 2) (t : Fin 8192) (k : Fin 5632) : EReal :=
  up A b t k * A.w (ix2 (2 : Fin 3) k) + A.b (ix1 k) + past A 1 b t k * A.w (ix2 (1 : Fin 3) k) + past A 2 b t k * A.w (ix2 (0 : Fin 3) k)

/-- A hidden column: the value column, gated. -/
def hidden (b : Fin 2) (t : Fin 8192) (k : Fin 2816) : EReal :=
  conv A b t ⟨k.val, by omega⟩ * Ideal.logistic (conv A b t ⟨k.val, by omega⟩) * conv A b t ⟨2816 + k.val, by omega⟩

/-- The layer's result. -/
def out (b : Fin 2) (t : Fin 8192) (d : Fin 1024) : EReal :=
  A.h (ix3 b t d) + A.m (ix2 b ⟨5120 + d.val, by omega⟩) * ∑ k, hidden A b t k * A.d (ix2 k d)

end Cert.FfnSpec
end
-- ==== Proof.RefFfn.lean ====
/- The reference's feed-forward layer read at an element. -/
module

public import proofs.«01_k».proof.Proof.FfnSpec
public import proofs.«01_k».proof.Proof.Gen.Reference2Ideal.Read
public import Idealize.ShloMosaic.Lib.Pointwise

@[expose] public section

set_option maxRecDepth 16384

noncomputable section

namespace Cert.RefFfn

open Cert.Reference2Ideal Cert.Reference2Ideal.Gen Cert.Reference2Ideal.Read Idealize.ShloMosaic
open Idealize.ShloMosaic.StableHlo Cert.FfnSpec

variable (x0 : S2x8192x1024.Idx → EReal) (x1 : S1024.Idx → EReal) (x2 : S2x6144.Idx → EReal) (x3 : S1024x5632.Idx → EReal)
  (x4 : S3x5632.Idx → EReal) (x5 : S5632.Idx → EReal) (x6 : S2816x1024.Idx → EReal)

theorem normed_read (b : Fin 2) (t : Fin 8192) (d : Fin 1024) :
    val_main_v26 (F := Ideal) x0 x1 x2 (ix3 b t d) = normed ⟨x0, x1, x2, x3, x4, x5, x6⟩ b t d := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_cst, val_main_cst_0, val_main_cst_1, val_main_cst_2, val_main_v3, val_main_v4]
  rfl

theorem up_read (b : Fin 2) (t : Fin 8192) (k : Fin 5632) :
    val_main_v27 (F := Ideal) x0 x1 x2 x3 (ix3 b t k) = up ⟨x0, x1, x2, x3, x4, x5, x6⟩ b t k := by
  pointwise [val_main_v27]
  exact Finset.sum_congr rfl fun d _ => by rw [normed_read x0 x1 x2 x3 x4 x5 x6]

theorem conv_read (b : Fin 2) (t : Fin 8192) (k : Fin 5632) :
    val_main_v54 (F := Ideal) x0 x1 x2 x3 x4 x5 (ix3 b t k) = conv ⟨x0, x1, x2, x3, x4, x5, x6⟩ b t k := by
  have h2 : (if h : t.val < 2 then (0 : EReal) else val_main_v27 (F := Ideal) x0 x1 x2 x3 (ix3 b ⟨t.val - 2, by omega⟩ k))
      = past ⟨x0, x1, x2, x3, x4, x5, x6⟩ 2 b t k := by
    unfold past
    split
    · rfl
    · exact up_read x0 x1 x2 x3 x4 x5 x6 _ _ _
  have h1 : (if h : 1 + t.val < 2 then (0 : EReal) else val_main_v27 (F := Ideal) x0 x1 x2 x3 (ix3 b ⟨1 + t.val - 2, by omega⟩ k))
      = past ⟨x0, x1, x2, x3, x4, x5, x6⟩ 1 b t k := by
    unfold past
    by_cases h : t.val < 1
    · rw [dif_pos (by omega), if_pos h]
    · rw [dif_neg (by omega), if_neg h, up_read x0 x1 x2 x3 x4 x5 x6]
      congr 1
      apply Fin.ext
      show 1 + t.val - 2 = t.val - 1
      omega
  pointwise [val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_cst_3, val_main_cst_4]
  rw [h1, h2, up_read x0 x1 x2 x3 x4 x5 x6]
  unfold conv
  generalize past _ 2 b t k * _ = p
  generalize past _ 1 b t k * _ = q
  generalize up _ b t k * _ = r
  show p + q + r + x5 (ix1 k) = r + x5 (ix1 k) + q + p
  ac_rfl

theorem hidden_read (b : Fin 2) (t : Fin 8192) (k : Fin 2816) :
    val_main_v58 (F := Ideal) x0 x1 x2 x3 x4 x5 (ix3 b t k) = hidden ⟨x0, x1, x2, x3, x4, x5, x6⟩ b t k := by
  pointwise [val_main_v58, val_main_v57, val_main_v56, val_main_v55, val_main_call0_v5, val_main_call0_v4, val_main_call0_v3, val_main_call0_v2,
    val_main_call0_v1, val_main_call0_v0, val_main_call0_cst, val_main_call0_cst_0]
  rw [conv_read x0 x1 x2 x3 x4 x5 x6, conv_read x0 x1 x2 x3 x4 x5 x6]
  rfl

/-- The layer's result. -/
theorem result (r : Fin 16384) (b : Fin 2) (hb : b.val = r.val / 8192) (t : Fin 8192) (ht : t.val = r.val % 8192) (k : Fin 1024) :
    val_main_v64 (F := Ideal) x0 x1 x2 x3 x4 x5 x6 (ix2 r k) = out ⟨x0, x1, x2, x3, x4, x5, x6⟩ b t k := by
  have hb' : r.val / 8192 < 2 := by omega
  have ht' : r.val % 8192 < 8192 := by omega
  obtain rfl : b = ⟨r.val / 8192, hb'⟩ := Fin.ext hb
  obtain rfl : t = ⟨r.val % 8192, ht'⟩ := Fin.ext ht
  pointwise [val_main_v64, val_main_v63, val_main_v62, val_main_v61, val_main_v60, val_main_v59, val_main_v5]
  simp only [hidden_read x0 x1 x2 x3 x4 x5 x6]
  rfl

/-- The last rows of each stretch of 512 rows of the up-projection. -/
theorem tail (r : Fin 32) (b : Fin 2) (hb : b.val = r.val / 16) (s : Fin 8) (t : Fin 8192) (ht : t.val = r.val % 16 * 512 + (504 + s.val)) (k : Fin 5632) :
    val_main_v66 (F := Ideal) x0 x1 x2 x3 (ix3 r s k) = up ⟨x0, x1, x2, x3, x4, x5, x6⟩ b t k := by
  have hb' : r.val / 16 < 2 := by omega
  have ht' : r.val % 16 * 512 + (504 + s.val) < 8192 := by omega
  obtain rfl : b = ⟨r.val / 16, hb'⟩ := Fin.ext hb
  obtain rfl : t = ⟨r.val % 16 * 512 + (504 + s.val), ht'⟩ := Fin.ext ht
  pointwise [val_main_v66, val_main_v65]
  exact up_read x0 x1 x2 x3 x4 x5 x6 _ _ _

end Cert.RefFfn
end
-- ==== Proof.FfnJoin.lean ====
/- Rows read back from the small scratch that joins the eight rows before a tile with its first eight. -/
module

public import proofs.«01_k».proof.Proof.Gen.Kernel2Ideal.Value
public import Idealize.ShloMosaic.Lib.Pointwise
public import Idealize.ShloMosaic.Lib.Pipeline.ValueKit
public import Idealize.ShloMosaic.Lib.Pipeline.ReadBack
public import Mathlib.Data.EReal.Basic

@[expose] public section

set_option maxRecDepth 16384

noncomputable section

namespace Cert.FfnJoin

open Cert.Kernel2Ideal Cert.Kernel2Ideal.Gen Idealize.ShloMosaic Idealize.ShloMosaic.TcCoe Idealize.SL.Sem

/-- Eight rows starting `s` rows before a tile: the last `s` of the carried rows, then the tile's own. -/
def joined (s : ℕ) (C U : S1x8x256.Idx → EReal) (j : S1x8x256.Idx) : EReal :=
  if h : (j 1).val < s then C (ix3 (0 : Fin 1) ⟨(8 - s + (j 1).val) % 8, Nat.mod_lt _ (by decide)⟩ (j 2))
  else U (ix3 (0 : Fin 1) ⟨((j 1).val - s) % 8, Nat.mod_lt _ (by decide)⟩ (j 2))

/-- A read of eight rows that starts `s` rows before the stored tile's rows. -/
theorem joined_of (v : View sig .tc .vmem S2x16x256 .f32) (p o s : ℕ) (ho : o + s = 8) (i8 i0 io)
    (U C : S1x8x256.Idx → Ideal .f32) (L : List (View.Piece (Elt Ideal) S2x16x256 .f32)) :
    v.readCov (⟨Rect.unit (s := S2x16x256) ![p, 8, 0] ![1, 8, 256] i8, U⟩ :: ⟨Rect.unit (s := S2x16x256) ![p, 0, 0] ![1, 8, 256] i0, C⟩ :: L)
      (Rect.unit (s := S2x16x256) ![p, o, 0] ![1, 8, 256] io).toLoadRect = joined s C U := by
  rw [View.readCov_eq_canon']
  funext j
  have h1 : (j 1).val < 8 := (j 1).isLt
  have h0 : (j 0).val < 1 := (j 0).isLt
  unfold joined
  split
  · rename_i h
    rw [View.canon_cons_of_not_mem]
    · have := View.canon_cons_emb (Val := Elt Ideal) (Rect.unit (s := S2x16x256) ![p, 0, 0] ![1, 8, 256] i0) C L (ix3 (0 : Fin 1) ⟨(8 - s + (j 1).val) % 8, Nat.mod_lt _ (by decide)⟩ (j 2))
      refine Eq.trans (congrArg _ ?_) this
      funext a
      apply Fin.ext
      fin_cases a <;> simp [Rect.toLoadRect, ix3] <;> omega
    · intro hm
      have := (Rect.mem_set_unit (inb := i8).mp hm) 1
      simp [Rect.toLoadRect] at this
      omega
  · rename_i h
    have := View.canon_cons_emb (Val := Elt Ideal) (Rect.unit (s := S2x16x256) ![p, 8, 0] ![1, 8, 256] i8) U
      (⟨Rect.unit (s := S2x16x256) ![p, 0, 0] ![1, 8, 256] i0, C⟩ :: L) (ix3 (0 : Fin 1) ⟨((j 1).val - s) % 8, Nat.mod_lt _ (by decide)⟩ (j 2))
    refine Eq.trans (congrArg _ ?_) this
    funext a
    apply Fin.ext
    fin_cases a <;> simp [Rect.toLoadRect, ix3] <;> omega

/-- The read one row before the tile's rows. -/
theorem joined_one (v : View sig .tc .vmem S2x16x256 .f32) (p : ℕ) (i8 i0 io)
    (U C : S1x8x256.Idx → Ideal .f32) (L : List (View.Piece (Elt Ideal) S2x16x256 .f32)) :
    v.readCov (⟨Rect.unit (s := S2x16x256) ![p, 8, 0] ![1, 8, 256] i8, U⟩ :: ⟨Rect.unit (s := S2x16x256) ![p, 0, 0] ![1, 8, 256] i0, C⟩ :: L)
      (Rect.unit (s := S2x16x256) ![p, 7, 0] ![1, 8, 256] io).toLoadRect = joined 1 C U :=
  joined_of v p 7 1 rfl i8 i0 io U C L

/-- The read two rows before the tile's rows. -/
theorem joined_two (v : View sig .tc .vmem S2x16x256 .f32) (p : ℕ) (i8 i0 io)
    (U C : S1x8x256.Idx → Ideal .f32) (L : List (View.Piece (Elt Ideal) S2x16x256 .f32)) :
    v.readCov (⟨Rect.unit (s := S2x16x256) ![p, 8, 0] ![1, 8, 256] i8, U⟩ :: ⟨Rect.unit (s := S2x16x256) ![p, 0, 0] ![1, 8, 256] i0, C⟩ :: L)
      (Rect.unit (s := S2x16x256) ![p, 6, 0] ![1, 8, 256] io).toLoadRect = joined 2 C U :=
  joined_of v p 6 2 rfl i8 i0 io U C L

end Cert.FfnJoin
end
-- ==== Proof.FfnRows.lean ====
/- One chunk of 256 gate and 256 value columns of the feed-forward layer, as the kernel computes it, read at an
   element. -/
module

public import proofs.«01_k».proof.Proof.FfnJoin

@[expose] public section

set_option maxRecDepth 16384

noncomputable section

namespace Cert.FfnRows

open Cert.Kernel2Ideal Cert.Kernel2Ideal.Gen Idealize.ShloMosaic Idealize.ShloMosaic.TcCoe Idealize.SL.Sem Cert.FfnJoin

/-- The chunk's columns of the up-projection. -/
def up (x : FVec Ideal S512x1024 .bf16) (w : Vec Ideal S1024x256 .bf16) : FVec Ideal S512x256 .f32 :=
  matmul dot_S512x1024_S1024x256_S512x256_1_0_0_1_n_n none x (shapeCast S1024x256 w shapeCasts_S1024x256_S1024x256 : FVec Ideal S1024x256 .bf16)
    (constant S512x256 .f32 0x00000000#32)

/-- The first eight rows of a tile. -/
def first (u : FVec Ideal S512x256 .f32) : FVec Ideal S1x8x256 .f32 :=
  shapeCast S1x8x256 (extractStridedSlice S8x256 ![0, 0] u slices_S512x256_o0_0_S8x256) shapeCasts_S8x256_S1x8x256

/-- The eight rows carried from the tile before. -/
def before (r : Vec Ideal S8x256 .f32) : FVec Ideal S1x8x256 .f32 :=
  shapeCast S1x8x256 r shapeCasts_S8x256_S1x8x256

/-- A row of weights over a tile's rows. -/
def over (w : FVec Ideal S1x256 .f32) : FVec Ideal S512x256 .f32 := broadcastTo S512x256 w broadcasts_S1x256_S512x256

/-- A row of weights over eight rows. -/
def over8 (w : FVec Ideal S1x256 .f32) : FVec Ideal S8x256 .f32 := broadcastTo S8x256 w broadcasts_S1x256_S8x256

/-- The convolution of a tile, each row with the rows above it in the tile, cyclically. -/
def rolled (u : FVec Ideal S512x256 .f32) (w0 w1 w2 b : FVec Ideal S1x256 .f32) : FVec Ideal S512x256 .f32 :=
  addf (addf (addf (mulf u (over w2)) (over b)) (mulf (dynamicRotate 0 1#32 none u rotates_S512x256_d0) (over w1)))
    (mulf (dynamicRotate 0 2#32 none u rotates_S512x256_d0) (over w0))

/-- The convolution of the tile's first eight rows, with the carried rows above them. -/
def fixed (u : FVec Ideal S512x256 .f32) (r : Vec Ideal S8x256 .f32) (w0 w1 w2 b : FVec Ideal S1x256 .f32) : FVec Ideal S8x256 .f32 :=
  addf (addf (addf (mulf (shapeCast S8x256 (first u) shapeCasts_S1x8x256_S8x256) (over8 w2)) (over8 b))
      (mulf (shapeCast S8x256 (joined 1 (before r) (first u) : Vec Ideal S1x8x256 .f32) shapeCasts_S1x8x256_S8x256) (over8 w1)))
    (mulf (shapeCast S8x256 (joined 2 (before r) (first u) : Vec Ideal S1x8x256 .f32) shapeCasts_S1x8x256_S8x256) (over8 w0))

/-- The convolution of a tile. -/
def conv (u : FVec Ideal S512x256 .f32) (r : Vec Ideal S8x256 .f32) (w0 w1 w2 b : FVec Ideal S1x256 .f32) : FVec Ideal S512x256 .f32 :=
  concatenate S512x256 0 [⟨S8x256, fixed u r w0 w1 w2 (shapeCast S1x256 b shapeCasts_S1x256_S1x256)⟩,
    ⟨S504x256, extractStridedSlice S504x256 ![8, 0] (rolled u w0 w1 w2 (shapeCast S1x256 b shapeCasts_S1x256_S1x256)) slices_S512x256_o8_0_S504x256⟩]
    concatenates_S8x256_S504x256_S512x256_d0

/-- A chunk of the hidden columns. -/
def chunk (x : FVec Ideal S512x1024 .bf16) (wg wv : Vec Ideal S1024x256 .bf16) (rg rv : Vec Ideal S8x256 .f32)
    (g0 g1 g2 gb v0 v1 v2 vb : Vec Ideal S1x256 .f32) : FVec Ideal S512x256 .bf16 :=
  shapeCast S512x256 (truncf .bf16 (mulf (mulf (conv (up x wg) rg g0 g1 g2 gb) (logistic (conv (up x wg) rg g0 g1 g2 gb)))
    (conv (up x wv) rv v0 v1 v2 vb)) bitsLt_bf16_f32) shapeCasts_S512x256_S512x256

theorem up_apply (x : FVec Ideal S512x1024 .bf16) (w : Vec Ideal S1024x256 .bf16) (τ : Fin 512) (k : Fin 256) :
    up x w (ix2 τ k) = (∑ d, x (ix2 τ d) * w (ix2 d k) : EReal) := by
  pointwise [up]

/-- The row of a column `s` rows above: in the tile, or among the carried rows. -/
def above (s : ℕ) (u : FVec Ideal S512x256 .f32) (r : Vec Ideal S8x256 .f32) (τ : Fin 512) (k : Fin 256) : EReal :=
  if τ.val < s then r (ix2 (⟨(8 - s + τ.val) % 8, Nat.mod_lt _ (by decide)⟩ : Fin 8) k) else u (ix2 (⟨τ.val - s, by omega⟩ : Fin 512) k)

theorem joined_apply (s : ℕ) (u : FVec Ideal S512x256 .f32) (r : Vec Ideal S8x256 .f32) (τ : Fin 8) (k : Fin 256) (σ : Fin 512) (hσ : σ.val = τ.val) :
    joined s (before r) (first u) (ix3 (0 : Fin 1) τ k) = above s u r σ k := by
  have e : joined s (before r) (first u) (ix3 (0 : Fin 1) τ k)
      = if h : τ.val < s then before r (ix3 (0 : Fin 1) (⟨(8 - s + τ.val) % 8, Nat.mod_lt _ (by decide)⟩ : Fin 8) k)
        else first u (ix3 (0 : Fin 1) (⟨(τ.val - s) % 8, Nat.mod_lt _ (by decide)⟩ : Fin 8) k) := rfl
  rw [e]
  unfold above
  by_cases h : τ.val < s
  · rw [dif_pos h, if_pos (by omega)]
    pointwise [before]
    simp only [hσ]
  · rw [dif_neg h, if_neg (by omega)]
    pointwise [first]
    refine congrArg u ?_
    blk_ext []

theorem fixed_apply (u : FVec Ideal S512x256 .f32) (r : Vec Ideal S8x256 .f32) (w0 w1 w2 b : FVec Ideal S1x256 .f32) (τ : Fin 8) (k : Fin 256)
    (σ : Fin 512) (hσ : σ.val = τ.val) :
    fixed u r w0 w1 w2 b (ix2 τ k) = (u (ix2 σ k) * w2 (ix2 (0 : Fin 1) k) + b (ix2 (0 : Fin 1) k)
      + above 1 u r σ k * w1 (ix2 (0 : Fin 1) k) + above 2 u r σ k * w0 (ix2 (0 : Fin 1) k) : EReal) := by
  rw [← joined_apply 1 u r τ k σ hσ, ← joined_apply 2 u r τ k σ hσ]
  have hlt : τ.val < 512 := by omega
  obtain rfl : σ = ⟨τ.val, hlt⟩ := Fin.ext hσ
  pointwise [fixed, over8, first]

theorem rolled_apply (u : FVec Ideal S512x256 .f32) (r : Vec Ideal S8x256 .f32) (w0 w1 w2 b : FVec Ideal S1x256 .f32) (τ : Fin 512) (hτ : ¬ τ.val < 8) (k : Fin 256) :
    rolled u w0 w1 w2 b (ix2 τ k) = (u (ix2 τ k) * w2 (ix2 (0 : Fin 1) k) + b (ix2 (0 : Fin 1) k)
      + above 1 u r τ k * w1 (ix2 (0 : Fin 1) k) + above 2 u r τ k * w0 (ix2 (0 : Fin 1) k) : EReal) := by
  have e1 : above 1 u r τ k = u (ix2 (⟨(τ.val + 512 - 1) % 512, Nat.mod_lt _ (by decide)⟩ : Fin 512) k) := by
    unfold above
    rw [if_neg (by omega)]
    refine congrArg u ?_
    blk_ext []
  have e2 : above 2 u r τ k = u (ix2 (⟨(τ.val + 512 - 2) % 512, Nat.mod_lt _ (by decide)⟩ : Fin 512) k) := by
    unfold above
    rw [if_neg (by omega)]
    refine congrArg u ?_
    blk_ext []
  rw [e1, e2]
  pointwise [rolled, over]

theorem conv_apply (u : FVec Ideal S512x256 .f32) (r : Vec Ideal S8x256 .f32) (w0 w1 w2 b : FVec Ideal S1x256 .f32) (τ : Fin 512) (k : Fin 256) :
    conv u r w0 w1 w2 b (ix2 τ k) = (u (ix2 τ k) * w2 (ix2 (0 : Fin 1) k) + b (ix2 (0 : Fin 1) k)
      + above 1 u r τ k * w1 (ix2 (0 : Fin 1) k) + above 2 u r τ k * w0 (ix2 (0 : Fin 1) k) : EReal) := by
  pointwise [conv]
  split
  · exact fixed_apply u r w0 w1 w2 b _ k τ rfl
  · rename_i h
    refine Eq.trans (rolled_apply u r w0 w1 w2 b _ (by simp) k) ?_
    have e : (⟨8 + (τ.val - 8), by omega⟩ : Fin 512) = τ := Fin.ext (by show 8 + (τ.val - 8) = τ.val; omega)
    rw [e]

theorem chunk_apply (x : FVec Ideal S512x1024 .bf16) (wg wv : Vec Ideal S1024x256 .bf16) (rg rv : Vec Ideal S8x256 .f32)
    (g0 g1 g2 gb v0 v1 v2 vb : Vec Ideal S1x256 .f32) (τ : Fin 512) (k : Fin 256) :
    chunk x wg wv rg rv g0 g1 g2 gb v0 v1 v2 vb (ix2 τ k) = (conv (up x wg) rg g0 g1 g2 gb (ix2 τ k)
      * Ideal.logistic (conv (up x wg) rg g0 g1 g2 gb (ix2 τ k)) * conv (up x wv) rv v0 v1 v2 vb (ix2 τ k) : EReal) := by
  pointwise [chunk]

theorem norm_apply (v0 : Vec Ideal S512x1024 .f32) (v12 : Vec Ideal S1x1024 .f32) (v16 : Vec Ideal S1x1x1024 .f32) (v22 : Vec Ideal S1x1x1024 .f32)
    (τ : Fin 512) (k : Fin 1024) :
    k0_pay4 v0 v12 v16 v22 (ix2 τ k) = (v0 (ix2 τ k) * Ideal.rsqrt (Ideal.div (∑ e, v0 (ix2 τ e) * v0 (ix2 τ e)) (Ideal.ofBits FTy.f32 1149239296#32)
      + Ideal.ofBits FTy.f32 897988541#32) * v12 (ix2 (0 : Fin 1) k)
    * (1 + v16 (ix3 (0 : Fin 1) (0 : Fin 1) k)) + v22 (ix3 (0 : Fin 1) (0 : Fin 1) k) : EReal) := by
  pointwise [k0_pay4, k0_pay3]

theorem out_apply (v0 : Vec Ideal S512x1024 .f32) (g : Vec Ideal S1x1x1024 .f32) (a : Vec Ideal S512x2816 .bf16) (d : Vec Ideal S2816x1024 .bf16)
    (τ : Fin 512) (k : Fin 1024) :
    k0_pay2 (k0_pay3 v0) g a d (ix2 τ k) = (v0 (ix2 τ k) + g (ix3 (0 : Fin 1) (0 : Fin 1) k) * ∑ x, a (ix2 τ x) * d (ix2 x k) : EReal) := by
  pointwise [k0_pay2, k0_pay3]

end Cert.FfnRows
end
-- ==== Proof.FfnBlocks.lean ====
/- The blocks of the feed-forward layer's windows, read as elements of the arrays the call is given, and what the
   body loads of them for a chunk of columns. -/
module

public import proofs.«01_k».proof.Proof.FfnSpec
public import proofs.«01_k».proof.Proof.Gen.Kernel2Ideal.Value
import Idealize.ShloMosaic.Lib.Pointwise
import Idealize.ShloMosaic.Lib.Pipeline.ValueKit
import Idealize.ShloMosaic.Lib.Claim

@[expose] public section

set_option maxRecDepth 16384

noncomputable section

namespace Cert.Kernel2Ideal.Blocks

open Cert.Kernel2Ideal Cert.Kernel2Ideal.Gen Idealize.ShloMosaic Idealize.ShloMosaic.TcCoe Idealize.SL.Sem

/-- The windows' block indices: grid point `t` is the tile of rows `512 * t ..` over both sequences. -/
theorem idx : ∀ t : Fin cfg0.N,
    win0_0.index t = ![t.val, 0] ∧ win0_1.index t = ![0, 0] ∧ win0_2.index t = ![t.val / 16, 0, 3] ∧ win0_3.index t = ![t.val / 16, 0, 4]
    ∧ win0_4.index t = ![t.val / 16, 0, 5] ∧ win0_5.index t = ![0, 0] ∧ win0_6.index t = ![0, 0] ∧ win0_7.index t = ![0, 0]
    ∧ win0_8.index t = ![0, 0] ∧ win0_9.index t = ![t.val, 0] ∧ win0_10.index t = ![t.val, 0, 0] ∧ t.val < 32 :=
  (by decide +kernel : ∀ t : Fin grid0.N, _)

variable (m : (ℓ : Loc nD τ sig) → Buf (Elt Ideal) ℓ) (c : Dev nD) (t : Fin cfg0.N)

/-- The call's arguments. -/
def args : Cert.FfnSpec.Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5), m ((c : Thread nD τ).loc main_arg6)⟩

/-- The hidden rows. -/
theorem rows (b : Fin 2) (hb : b.val = t.val / 16) (r : Fin 8192) (v : Fin 512) (hr : r.val = t.val % 16 * 512 + v.val) (d : Fin 1024) :
    iblk m c 0 t (ix2 v d) = m ((c : Thread nD τ).loc main_arg0) (ix3 b r d) := by
  have hd := idx t
  blk_simp [iblk, idx t]
  entry_read
  pointwise
  blk_ext [idx t]

/-- The norm's weights. -/
theorem weight (d : Fin 1024) :
    iblk m c 1 t (ix2 (0 : Fin 1) d) = m ((c : Thread nD τ).loc main_arg1) (ix1 d) := by
  have hd := idx t
  blk_simp [iblk, idx t]
  entry_read
  pointwise
  blk_ext [idx t]

/-- The shift. -/
theorem shift (b : Fin 2) (hb : b.val = t.val / 16) (d : Fin 1024) (e : Fin 6144) (he : e.val = 3072 + d.val) :
    iblk m c 2 t (ix3 (0 : Fin 1) (0 : Fin 1) d) = m ((c : Thread nD τ).loc main_arg2) (ix2 b e) := by
  have hd := idx t
  blk_simp [iblk, idx t]
  entry_read
  pointwise
  blk_ext [idx t]

/-- The scale. -/
theorem scale (b : Fin 2) (hb : b.val = t.val / 16) (d : Fin 1024) (e : Fin 6144) (he : e.val = 4096 + d.val) :
    iblk m c 3 t (ix3 (0 : Fin 1) (0 : Fin 1) d) = m ((c : Thread nD τ).loc main_arg2) (ix2 b e) := by
  have hd := idx t
  blk_simp [iblk, idx t]
  entry_read
  pointwise
  blk_ext [idx t]

/-- The gate. -/
theorem gate (b : Fin 2) (hb : b.val = t.val / 16) (d : Fin 1024) (e : Fin 6144) (he : e.val = 5120 + d.val) :
    iblk m c 4 t (ix3 (0 : Fin 1) (0 : Fin 1) d) = m ((c : Thread nD τ).loc main_arg2) (ix2 b e) := by
  have hd := idx t
  blk_simp [iblk, idx t]
  entry_read
  pointwise
  blk_ext [idx t]

/-- The up-projection's weights. -/
theorem upW (d : Fin 1024) (k : Fin 5632) :
    iblk m c 5 t (ix2 d k) = m ((c : Thread nD τ).loc main_arg3) (ix2 d k) := by
  have hd := idx t
  blk_simp [iblk, idx t]
  entry_read
  pointwise
  blk_ext [idx t]

/-- The convolution's weights. -/
theorem convW (s : Fin 3) (k : Fin 5632) :
    iblk m c 6 t (ix2 s k) = m ((c : Thread nD τ).loc main_arg4) (ix2 s k) := by
  have hd := idx t
  blk_simp [iblk, idx t]
  entry_read
  pointwise
  blk_ext [idx t]

/-- The convolution's bias. -/
theorem convB (k : Fin 5632) :
    iblk m c 7 t (ix2 (0 : Fin 1) k) = m ((c : Thread nD τ).loc main_arg5) (ix1 k) := by
  have hd := idx t
  blk_simp [iblk, idx t]
  entry_read
  pointwise
  blk_ext [idx t]

/-- The down-projection's weights. -/
theorem downW (k : Fin 2816) (d : Fin 1024) :
    iblk m c 8 t (ix2 k d) = m ((c : Thread nD τ).loc main_arg6) (ix2 k d) := by
  have hd := idx t
  blk_simp [iblk, idx t]
  entry_read
  pointwise
  blk_ext [idx t]

/-! A chunk's columns of them: the chunk begins at column `a`. -/

variable (a : ℕ) (k : Fin 256) (K : Fin 5632) (hK : K.val = a + k.val)

include hK

theorem upW_ld (i) (d : Fin 1024) :
    View.ld (iblk m c 5 t) (Rect.unit (s := S1024x5632) ![0, a] ![1024, 256] i) (ix2 d k) = m ((c : Thread nD τ).loc main_arg3) (ix2 d K) := by
  refine Eq.trans (View.ld_unit_apply_of _ _ _ _ _ (ix2 d K) ?_) (upW m c t d K)
  intro j
  fin_cases j <;> simp [ix2, hK]

theorem convW_ld (s : ℕ) (S : Fin 3) (hS : S.val = s) (i) :
    View.ld (iblk m c 6 t) (Rect.unit (s := S3x5632) ![s, a] ![1, 256] i) (ix2 (0 : Fin 1) k) = m ((c : Thread nD τ).loc main_arg4) (ix2 S K) := by
  refine Eq.trans (View.ld_unit_apply_of _ _ _ _ _ (ix2 S K) ?_) (convW m c t S K)
  intro j
  fin_cases j <;> simp [ix2, hK, hS]

theorem convB_ld (i) :
    View.ld (iblk m c 7 t) (Rect.unit (s := S1x5632) ![0, a] ![1, 256] i) (ix2 (0 : Fin 1) k) = m ((c : Thread nD τ).loc main_arg5) (ix1 K) := by
  refine Eq.trans (View.ld_unit_apply_of _ _ _ _ _ (ix2 (0 : Fin 1) K) ?_) (convB m c t K)
  intro j
  fin_cases j <;> simp [ix2, hK]

theorem carry_ld (C : Vec Ideal S8x5632 .f32) (r : Fin 8) (i) :
    View.ld C (Rect.unit (s := S8x5632) ![0, a] ![8, 256] i) (ix2 r k) = C (ix2 r K) := by
  refine View.ld_unit_apply_of _ _ _ _ _ (ix2 r K) ?_
  intro j
  fin_cases j <;> simp [ix2, hK]

end Cert.Kernel2Ideal.Blocks

end
-- ==== Proof.FfnTile.lean ====
/- A chunk of hidden columns over one tile of rows, from the blocks the body loads and the rows carried from the
   tile before. -/
module

public import proofs.«01_k».proof.Proof.FfnRows
public import proofs.«01_k».proof.Proof.FfnBlocks

@[expose] public section

set_option maxRecDepth 16384

noncomputable section

namespace Cert.Kernel2Ideal.Tile

open Cert.Kernel2Ideal Cert.Kernel2Ideal.Gen Idealize.ShloMosaic Idealize.ShloMosaic.TcCoe Idealize.SL.Sem
open Cert.Kernel2Ideal.Blocks

variable (m : (ℓ : Loc nD τ sig) → Buf (Elt Ideal) ℓ) (c : Dev nD) (t : Fin cfg0.N)
  (b : Fin 2) (hb : b.val = t.val / 16) (row : Fin 512 → Fin 8192) (hrow : ∀ v, (row v).val = t.val % 16 * 512 + v.val)

/-- The normed rows of the tile. -/
def Normed (X : FVec Ideal S512x1024 .bf16) : Prop := ∀ v d, X (ix2 v d) = Cert.FfnSpec.normed (args m c) b (row v) d

/-- What the carried rows hold: the up-projection's rows above the tile, zero above the first. -/
def Carried (C : Vec Ideal S8x5632 .f32) : Prop :=
  ∀ s, s ≤ 2 → ∀ v : Fin 512, v.val < s → ∀ k : Fin 5632,
    C (ix2 (⟨(8 - s + v.val) % 8, Nat.mod_lt _ (by decide)⟩ : Fin 8) k) = Cert.FfnSpec.past (args m c) s b (row v) k

include hb hrow in
theorem normed_tile : Normed m c b row (k0_pay4 (iblk m c 0 t) (iblk m c 1 t) (iblk m c 3 t) (iblk m c 2 t)) := by
  intro v d
  rw [Cert.FfnRows.norm_apply]
  simp only [rows m c t b hb (row v) v (hrow v), weight m c t, scale m c t b hb d ⟨4096 + d.val, by omega⟩ rfl,
    shift m c t b hb d ⟨3072 + d.val, by omega⟩ rfl]
  rfl

section

variable (X : FVec Ideal S512x1024 .bf16) (hX : Normed m c b row X) (C : Vec Ideal S8x5632 .f32) (hC : Carried m c b row C)

include hX in
theorem up_tile (a : ℕ) (i) (v : Fin 512) (k : Fin 256) (K : Fin 5632) (hK : K.val = a + k.val) :
    Cert.FfnRows.up X (View.ld (iblk m c 5 t) (Rect.unit (s := S1024x5632) ![0, a] ![1024, 256] i)) (ix2 v k)
      = Cert.FfnSpec.up (args m c) b (row v) K := by
  rw [Cert.FfnRows.up_apply]
  refine Finset.sum_congr rfl fun d _ => ?_
  rw [hX v d, upW_ld m c t a k K hK i d]
  rfl

include hX hC hrow in
theorem above_tile (s : ℕ) (hs : s ≤ 2) (a : ℕ) (i i') (v : Fin 512) (k : Fin 256) (K : Fin 5632) (hK : K.val = a + k.val) :
    Cert.FfnRows.above s (Cert.FfnRows.up X (View.ld (iblk m c 5 t) (Rect.unit (s := S1024x5632) ![0, a] ![1024, 256] i)))
        (View.ld C (Rect.unit (s := S8x5632) ![0, a] ![8, 256] i')) v k
      = Cert.FfnSpec.past (args m c) s b (row v) K := by
  unfold Cert.FfnRows.above
  by_cases h : v.val < s
  · rw [if_pos h, carry_ld a k K hK C _ i']
    exact hC s hs v h K
  · have hv := hrow v
    rw [if_neg h, up_tile m c t b row X hX a i _ k K hK]
    unfold Cert.FfnSpec.past
    rw [if_neg (by omega)]
    congr 1
    apply Fin.ext
    rw [hrow]
    show t.val % 16 * 512 + (v.val - s) = (row v).val - s
    omega

include hX hC hrow in
theorem conv_tile (a : ℕ) (i5 ic i0 i1 i2 ib) (v : Fin 512) (k : Fin 256) (K : Fin 5632) (hK : K.val = a + k.val) :
    Cert.FfnRows.conv (Cert.FfnRows.up X (View.ld (iblk m c 5 t) (Rect.unit (s := S1024x5632) ![0, a] ![1024, 256] i5)))
        (View.ld C (Rect.unit (s := S8x5632) ![0, a] ![8, 256] ic))
        (View.ld (iblk m c 6 t) (Rect.unit (s := S3x5632) ![0, a] ![1, 256] i0))
        (View.ld (iblk m c 6 t) (Rect.unit (s := S3x5632) ![1, a] ![1, 256] i1))
        (View.ld (iblk m c 6 t) (Rect.unit (s := S3x5632) ![2, a] ![1, 256] i2))
        (View.ld (iblk m c 7 t) (Rect.unit (s := S1x5632) ![0, a] ![1, 256] ib)) (ix2 v k)
      = Cert.FfnSpec.conv (args m c) b (row v) K := by
  rw [Cert.FfnRows.conv_apply, up_tile m c t b row X hX a i5 v k K hK,
    above_tile m c t b row hrow X hX C hC 1 (by decide) a i5 ic v k K hK, above_tile m c t b row hrow X hX C hC 2 (by decide) a i5 ic v k K hK,
    convW_ld m c t a k K hK 0 0 rfl i0, convW_ld m c t a k K hK 1 1 rfl i1, convW_ld m c t a k K hK 2 2 rfl i2, convB_ld m c t a k K hK ib]
  rfl

include hX hC hrow in
/-- A chunk of hidden columns: its gate columns begin at `a`, its value columns at `a'`. -/
theorem chunk_tile (a a' : ℕ) (ha : a' = 2816 + a) (i5 ic i0 i1 i2 ib j5 jc j0 j1 j2 jb) (x : S512x256.Idx) (v : Fin 512) (hv : v.val = (x 0).val)
    (k : Fin 2816) (hk : k.val = a + (x 1).val) :
    Cert.FfnRows.chunk X
        (View.ld (iblk m c 5 t) (Rect.unit (s := S1024x5632) ![0, a] ![1024, 256] i5))
        (View.ld (iblk m c 5 t) (Rect.unit (s := S1024x5632) ![0, a'] ![1024, 256] j5))
        (View.ld C (Rect.unit (s := S8x5632) ![0, a] ![8, 256] ic))
        (View.ld C (Rect.unit (s := S8x5632) ![0, a'] ![8, 256] jc))
        (View.ld (iblk m c 6 t) (Rect.unit (s := S3x5632) ![0, a] ![1, 256] i0))
        (View.ld (iblk m c 6 t) (Rect.unit (s := S3x5632) ![1, a] ![1, 256] i1))
        (View.ld (iblk m c 6 t) (Rect.unit (s := S3x5632) ![2, a] ![1, 256] i2))
        (View.ld (iblk m c 7 t) (Rect.unit (s := S1x5632) ![0, a] ![1, 256] ib))
        (View.ld (iblk m c 6 t) (Rect.unit (s := S3x5632) ![0, a'] ![1, 256] j0))
        (View.ld (iblk m c 6 t) (Rect.unit (s := S3x5632) ![1, a'] ![1, 256] j1))
        (View.ld (iblk m c 6 t) (Rect.unit (s := S3x5632) ![2, a'] ![1, 256] j2))
        (View.ld (iblk m c 7 t) (Rect.unit (s := S1x5632) ![0, a'] ![1, 256] jb)) x
      = Cert.FfnSpec.hidden (args m c) b (row v) k := by
  obtain ⟨w, u, rfl⟩ : ∃ (w : Fin 512) (u : Fin 256), x = ix2 w u := ⟨x 0, x 1, by blk_ext []⟩
  obtain rfl : v = w := Fin.ext hv
  have hk' : k.val = a + u.val := hk
  rw [Cert.FfnRows.chunk_apply, conv_tile m c t b row hrow X hX C hC a i5 ic i0 i1 i2 ib v u ⟨k.val, by omega⟩ hk',
    conv_tile m c t b row hrow X hX C hC a' j5 jc j0 j1 j2 jb v u ⟨2816 + k.val, by omega⟩ (by show 2816 + k.val = a' + u.val; omega)]
  rfl

end

end Cert.Kernel2Ideal.Tile

end
-- ==== Proof.FfnPoint.lean ====
/- What a grid point of the feed-forward layer leaves: its tile of the result, the last rows of the up-projection,
   and the same rows carried to the next tile. -/
module

public import proofs.«01_k».proof.Proof.FfnTile
import Idealize.ShloMosaic.Lib.Claim

@[expose] public section

set_option maxRecDepth 16384

noncomputable section

namespace Cert.Kernel2Ideal.Point

open Cert.Kernel2Ideal Cert.Kernel2Ideal.Gen Idealize.ShloMosaic Idealize.ShloMosaic.TcCoe Idealize.SL.Sem
open Cert.Kernel2Ideal.Blocks Cert.Kernel2Ideal.Tile Cert.FfnJoin

/-- The last eight rows of a tile's columns. -/
def last (u : FVec Ideal S512x256 .f32) : FVec Ideal S8x256 .f32 :=
  extractStridedSlice S8x256 ![504, 0] u slices_S512x256_o504_0_S8x256

/-- As they are carried. -/
def kept (u : FVec Ideal S512x256 .f32) : FVec Ideal S8x256 .f32 := shapeCast S8x256 (last u) shapeCasts_S8x256_S8x256

/-- As they are a result. -/
def tail (u : FVec Ideal S512x256 .f32) : FVec Ideal S1x8x256 .f32 := shapeCast S1x8x256 (last u) shapeCasts_S8x256_S1x8x256

theorem kept_apply (u : FVec Ideal S512x256 .f32) (r : Fin 8) (k : Fin 256) (v : Fin 512) (hv : v.val = 504 + r.val) : kept u (ix2 r k) = u (ix2 v k) := by
  have hlt : 504 + r.val < 512 := by omega
  obtain rfl : v = ⟨504 + r.val, hlt⟩ := Fin.ext hv
  pointwise [kept, last]

theorem tail_apply (u : FVec Ideal S512x256 .f32) (r : Fin 8) (k : Fin 256) (v : Fin 512) (hv : v.val = 504 + r.val) :
    tail u (ix3 (0 : Fin 1) r k) = u (ix2 v k) := by
  have hlt : 504 + r.val < 512 := by omega
  obtain rfl : v = ⟨504 + r.val, hlt⟩ := Fin.ext hv
  pointwise [tail, last]

/-- Where the earlier stores (the list's later pieces) but the first cover an index, the first does not matter. -/
theorem canon_dropLast {S : Shape} : ∀ (L : List (View.Piece (Elt Ideal) S .f32)) (y : S.Idx), (∃ p ∈ L.dropLast, y ∈ p.1.set) →
    View.canon L y = View.canon L.dropLast y
  | [], _, h => by obtain ⟨p, hp, _⟩ := h; exact absurd hp List.not_mem_nil
  | [_], _, h => by obtain ⟨p, hp, _⟩ := h; exact absurd hp List.not_mem_nil
  | p :: q :: L, y, h => by
    rw [List.dropLast_cons₂] at h ⊢
    by_cases hm : y ∈ p.1.set
    · obtain ⟨x, rfl⟩ := p.1.exists_idx_of_mem hm
      have e (L' : List (View.Piece (Elt Ideal) S .f32)) : View.canon (p :: L') (p.1.idx x) = p.2 x := View.canon_cons_emb p.1 p.2 L' x
      rw [e, e]
    · rw [View.canon_cons_of_not_mem _ _ hm, View.canon_cons_of_not_mem _ _ hm]
      refine canon_dropLast (q :: L) y ?_
      obtain ⟨r, hr, hy⟩ := h
      rcases List.mem_cons.mp hr with rfl | hr'
      · exact absurd hy hm
      · exact ⟨r, hr', hy⟩

variable (m : (ℓ : Loc nD τ sig) → Buf (Elt Ideal) ℓ) (c : Dev nD) (t : Fin cfg0.N)
  (b : Fin 2) (row : Fin 512 → Fin 8192)

section

variable (X : FVec Ideal S512x1024 .bf16) (hX : Normed m c b row X)

include hX in
theorem kept_tile (a : ℕ) (i) (x : S8x256.Idx) (r : Fin 8) (hr : r.val = (x 0).val) (v : Fin 512) (hv : v.val = 504 + r.val) (K : Fin 5632) (hK : K.val = a + (x 1).val) :
    kept (Cert.FfnRows.up X (View.ld (iblk m c 5 t) (Rect.unit (s := S1024x5632) ![0, a] ![1024, 256] i))) x
      = Cert.FfnSpec.up (args m c) b (row v) K := by
  obtain ⟨w, u, rfl⟩ : ∃ (w : Fin 8) (u : Fin 256), x = ix2 w u := ⟨x 0, x 1, by blk_ext []⟩
  obtain rfl : r = w := Fin.ext hr
  rw [kept_apply _ _ _ v hv]
  exact up_tile m c t b row X hX a i v u K hK

include hX in
theorem tail_tile (a : ℕ) (i) (x : S1x8x256.Idx) (r : Fin 8) (hr : r.val = (x 1).val) (v : Fin 512) (hv : v.val = 504 + r.val) (K : Fin 5632) (hK : K.val = a + (x 2).val) :
    tail (Cert.FfnRows.up X (View.ld (iblk m c 5 t) (Rect.unit (s := S1024x5632) ![0, a] ![1024, 256] i))) x
      = Cert.FfnSpec.up (args m c) b (row v) K := by
  obtain ⟨z, w, u, rfl⟩ : ∃ (z : Fin 1) (w : Fin 8) (u : Fin 256), x = ix3 z w u := ⟨x 0, x 1, x 2, by blk_ext []⟩
  obtain rfl : z = 0 := Subsingleton.elim _ _
  obtain rfl : r = w := Fin.ext hr
  rw [tail_apply _ _ _ v hv]
  exact up_tile m c t b row X hX a i v u K hK

end

variable (hb : b.val = t.val / 16) (hrow : ∀ v, (row v).val = t.val % 16 * 512 + v.val)

include hb hrow

set_option maxHeartbeats 2000000 in
/-- The rows a point carries to the next. -/
theorem carry (y : S8x5632.Idx) (v : Fin 512) (hv : v.val = 504 + (y 0).val) (K : Fin 5632) (hK : K.val = (y 1).val) :
    (outsAt0 m c t.val t.isLt).2.2 y = Cert.FfnSpec.up (args m c) b (row v) K := by
  have hX := normed_tile m c t b hb row hrow
  by_cases h : t.val % 16 = 0
  · rw [outsAt0_A m c t h]
    frame_out
    generalize k0_pay4 (iblk m c 0 t) (iblk m c 1 t) (iblk m c 3 t) (iblk m c 2 t) = X at hX ⊢
    refine Eq.trans (canon_dropLast _ y ?_) ?_
    · simp only [List.dropLast, List.mem_cons, exists_eq_or_imp, List.not_mem_nil, false_and, exists_false, or_false, Rect.mem_set_unit, Fin.forall_fin_two]
      have h0 : (y 0).val < 8 := (y 0).isLt
      have h1 : (y 1).val < 5632 := (y 1).isLt
      simp
      rw [Rect.mem_set_unit, Fin.forall_fin_two]
      simp
      omega
    simp only [List.dropLast]
    canon_tiles x hx
    all_goals
      refine Eq.trans (congrFun (g := kept (Cert.FfnRows.up X ?_)) ?_ x) ?_
      on_goal 2 =>
        open_payloads
        with_reducible unfold kept
        delta last Cert.FfnRows.up
        with_reducible exact rfl
      exact kept_tile m c t b row X hX _ _ x (y 0) (by omega) v hv K (by omega)
  · rw [outsAt0_B m c t h]
    frame_out
    generalize k0_pay4 (iblk m c 0 t) (iblk m c 1 t) (iblk m c 3 t) (iblk m c 2 t) = X at hX ⊢
    canon_tiles x hx
    all_goals
      refine Eq.trans (congrFun (g := kept (Cert.FfnRows.up X ?_)) ?_ x) ?_
      on_goal 2 =>
        open_payloads
        with_reducible unfold kept
        delta last Cert.FfnRows.up
        with_reducible exact rfl
      exact kept_tile m c t b row X hX _ _ x (y 0) (by omega) v hv K (by omega)

set_option maxHeartbeats 2000000 in
/-- The rows a point leaves as a result. -/
theorem tails (y : S1x8x5632.Idx) (v : Fin 512) (hv : v.val = 504 + (y 1).val) (K : Fin 5632) (hK : K.val = (y 2).val) :
    (outsAt0 m c t.val t.isLt).2.1 y = Cert.FfnSpec.up (args m c) b (row v) K := by
  have hX := normed_tile m c t b hb row hrow
  by_cases h : t.val % 16 = 0
  · rw [outsAt0_A m c t h]
    frame_out
    generalize k0_pay4 (iblk m c 0 t) (iblk m c 1 t) (iblk m c 3 t) (iblk m c 2 t) = X at hX ⊢
    canon_tiles x hx
    all_goals
      refine Eq.trans (congrFun (g := tail (Cert.FfnRows.up X ?_)) ?_ x) ?_
      on_goal 2 =>
        open_payloads
        with_reducible unfold tail
        delta last Cert.FfnRows.up
        with_reducible exact rfl
      exact tail_tile m c t b row X hX _ _ x (y 1) (by omega) v hv K (by omega)
  · rw [outsAt0_B m c t h]
    frame_out
    generalize k0_pay4 (iblk m c 0 t) (iblk m c 1 t) (iblk m c 3 t) (iblk m c 2 t) = X at hX ⊢
    canon_tiles x hx
    all_goals
      refine Eq.trans (congrFun (g := tail (Cert.FfnRows.up X ?_)) ?_ x) ?_
      on_goal 2 =>
        open_payloads
        with_reducible unfold tail
        delta last Cert.FfnRows.up
        with_reducible exact rfl
      exact tail_tile m c t b row X hX _ _ x (y 1) (by omega) v hv K (by omega)

end Cert.Kernel2Ideal.Point

end
-- ==== Proof.FfnOut.lean ====
/- What a grid point of the feed-forward layer leaves of the result: its tile of rows. -/
module

public import proofs.«01_k».proof.Proof.FfnPoint
import Idealize.ShloMosaic.Lib.Claim

@[expose] public section

set_option maxRecDepth 16384

noncomputable section

namespace Cert.Kernel2Ideal.Point

open Cert.Kernel2Ideal Cert.Kernel2Ideal.Gen Idealize.ShloMosaic Idealize.ShloMosaic.TcCoe Idealize.SL.Sem
open Cert.Kernel2Ideal.Blocks Cert.Kernel2Ideal.Tile Cert.FfnJoin

/-- A read of the whole hidden scratch reads every element in its place. -/
theorem whole_idx (i) (z : S512x2816.Idx) : (Rect.unit (s := S512x2816) ![0, 0] ![512, 2816] i).toLoadRect.idx z = z := by
  funext a
  apply Fin.ext
  fin_cases a <;> simp [Rect.toLoadRect]

section Tiles

variable (m : (ℓ : Loc nD τ sig) → Buf (Elt Ideal) ℓ) (c : Dev nD) (t : Fin cfg0.N)
  (b : Fin 2) (row : Fin 512 → Fin 8192)

variable (hb : b.val = t.val / 16) (hrow : ∀ v, (row v).val = t.val % 16 * 512 + v.val)

include hb hrow in
/-- The result's tile, once the hidden columns are the specification's. -/
theorem tile_of (a : Vec Ideal S512x2816 .bf16) (ha : ∀ v k, a (ix2 v k) = Cert.FfnSpec.hidden (args m c) b (row v) k) (v : Fin 512) (d : Fin 1024) :
    k0_pay2 (k0_pay3 (iblk m c 0 t)) (iblk m c 4 t) a (iblk m c 8 t) (ix2 v d) = Cert.FfnSpec.out (args m c) b (row v) d := by
  rw [Cert.FfnRows.out_apply, rows m c t b hb (row v) v (hrow v), gate m c t b hb d ⟨5120 + d.val, by omega⟩ rfl]
  simp only [ha, downW m c t]
  rfl

include hrow in
theorem carried_zero (h : t.val % 16 = 0) : Carried m c b row (k0_pay5 (F := Ideal)) := by
  intro s hs v hv k
  have hz := hrow v
  unfold Cert.FfnSpec.past
  rw [if_pos (by omega)]
  pointwise [k0_pay5]

include hb hrow in
theorem carried_prev (h : ¬ t.val % 16 = 0) : Carried m c b row (outsAt0 m c (t.val - 1) (lt_of_le_of_lt (Nat.sub_le _ _) t.isLt)).2.2 := by
  intro s hs v hv k
  have hz := hrow v
  have ht := t.isLt
  have hN : t.val < 32 := ht
  have e := carry m c ⟨t.val - 1, lt_of_le_of_lt (Nat.sub_le _ _) t.isLt⟩ b (fun w => ⟨(t.val - 1) % 16 * 512 + w.val, by omega⟩)
    (by show b.val = (t.val - 1) / 16; omega) (fun w => rfl) (ix2 (⟨(8 - s + v.val) % 8, Nat.mod_lt _ (by decide)⟩ : Fin 8) k)
    ⟨504 + (8 - s + v.val) % 8, by omega⟩ rfl k rfl
  refine Eq.trans e ?_
  unfold Cert.FfnSpec.past
  rw [if_neg (by omega)]
  congr 1
  apply Fin.ext
  show (t.val - 1) % 16 * 512 + (504 + (8 - s + v.val) % 8) = (row v).val - s
  omega

include hb hrow

set_option maxHeartbeats 2000000 in
/-- The tile of a sequence's first rows. -/
theorem tile_A (h : t.val % 16 = 0) (v : Fin 512) (d : Fin 1024) :
    (outsAt0 m c t.val t.isLt).1 (ix2 v d) = Cert.FfnSpec.out (args m c) b (row v) d := by
  have hX := normed_tile m c t b hb row hrow
  have hC := carried_zero m c t b row hrow h
  rw [outsAt0_A m c t h]
  frame_open
  simp (disch := decide) only [↓ View.readCov_skip, ↓ View.readCov_cons_toLoadRect, ↓ View.readCov_fill, ↓ joined_one, ↓ joined_two]
  frame_out
  generalize k0_pay4 (iblk m c 0 t) (iblk m c 1 t) (iblk m c 3 t) (iblk m c 2 t) = X at hX ⊢
  generalize k0_pay5 (F := Ideal) = C at hC ⊢
  refine tile_of m c t b row hb hrow _ ?_ v d
  intro v k
  rw [View.readCov_eq_canon']
  refine Eq.trans (congrArg (View.canon _) (whole_idx _ (ix2 v k))) ?_
  obtain ⟨z, hz0, hz1, hz⟩ : ∃ z : S512x2816.Idx, (z 0).val = v.val ∧ (z 1).val = k.val ∧ ix2 v k = z := ⟨_, rfl, rfl, rfl⟩
  rw [hz]
  canon_tiles x hx
  all_goals
    refine Eq.trans (congrFun (g := Cert.FfnRows.chunk X ?_ ?_ ?_ ?_ ?_ ?_ ?_ ?_ ?_ ?_ ?_ ?_) ?_ x) ?_
    on_goal 13 =>
      open_payloads
      with_reducible unfold Cert.FfnRows.chunk
      delta Cert.FfnRows.conv Cert.FfnRows.fixed Cert.FfnRows.rolled Cert.FfnRows.over Cert.FfnRows.over8 Cert.FfnRows.first Cert.FfnRows.before Cert.FfnRows.up
      with_reducible exact rfl
    exact chunk_tile m c t b row hrow X hX C hC _ _ rfl _ _ _ _ _ _ _ _ _ _ _ _ x v (by omega) k (by omega)

set_option maxHeartbeats 2000000 in
/-- A later tile. -/
theorem tile_B (h : ¬ t.val % 16 = 0) (v : Fin 512) (d : Fin 1024) :
    (outsAt0 m c t.val t.isLt).1 (ix2 v d) = Cert.FfnSpec.out (args m c) b (row v) d := by
  have hX := normed_tile m c t b hb row hrow
  have hC := carried_prev m c t b row hb hrow h
  rw [outsAt0_B m c t h]
  frame_open
  simp (disch := decide) only [↓ View.readCov_skip, ↓ View.readCov_cons_toLoadRect, ↓ View.readCov_fill, ↓ joined_one, ↓ joined_two]
  frame_out
  simp only [read_unread_whole]
  generalize k0_pay4 (iblk m c 0 t) (iblk m c 1 t) (iblk m c 3 t) (iblk m c 2 t) = X at hX ⊢
  generalize (outsAt0 m c (t.val - 1) (lt_of_le_of_lt (Nat.sub_le _ _) t.isLt)).2.2 = C at hC ⊢
  refine tile_of m c t b row hb hrow _ ?_ v d
  intro v k
  rw [View.readCov_eq_canon']
  refine Eq.trans (congrArg (View.canon _) (whole_idx _ (ix2 v k))) ?_
  obtain ⟨z, hz0, hz1, hz⟩ : ∃ z : S512x2816.Idx, (z 0).val = v.val ∧ (z 1).val = k.val ∧ ix2 v k = z := ⟨_, rfl, rfl, rfl⟩
  rw [hz]
  canon_tiles x hx
  all_goals
    refine Eq.trans (congrFun (g := Cert.FfnRows.chunk X ?_ ?_ ?_ ?_ ?_ ?_ ?_ ?_ ?_ ?_ ?_ ?_) ?_ x) ?_
    on_goal 13 =>
      open_payloads
      with_reducible unfold Cert.FfnRows.chunk
      delta Cert.FfnRows.conv Cert.FfnRows.fixed Cert.FfnRows.rolled Cert.FfnRows.over Cert.FfnRows.over8 Cert.FfnRows.first Cert.FfnRows.before Cert.FfnRows.up
      with_reducible exact rfl
    exact chunk_tile m c t b row hrow X hX C hC _ _ rfl _ _ _ _ _ _ _ _ _ _ _ _ x v (by omega) k (by omega)

include hb hrow in
/-- Every tile of the result. -/
theorem tiles (v : Fin 512) (d : Fin 1024) :
    (outsAt0 m c t.val t.isLt).1 (ix2 v d) = Cert.FfnSpec.out (args m c) b (row v) d := by
  by_cases h : t.val % 16 = 0
  · exact tile_A m c t b row hb hrow h v d
  · exact tile_B m c t b row hb hrow h v d

end Tiles

variable (m : (ℓ : Loc nD τ sig) → Buf (Elt Ideal) ℓ) (c : Dev nD)

/-- The first result after the run: the layer's output, both sequences' rows in one list. -/
def value9 : Buf (Elt Ideal) ((c : Thread nD τ).loc main_v6_0) :=
  fun (j : S16384x1024.Idx) => Cert.FfnSpec.out (args m c) ⟨(j 0).val / 8192, by have : (j 0).val < 16384 := (j 0).isLt; omega⟩
    ⟨(j 0).val % 8192, by omega⟩ (j 1)

/-- The second result after the run: the last eight up-projected rows of every tile. -/
def value10 : Buf (Elt Ideal) ((c : Thread nD τ).loc main_v6_1) :=
  fun (j : S32x8x5632.Idx) => Cert.FfnSpec.up (args m c) ⟨(j 0).val / 16, by have : (j 0).val < 32 := (j 0).isLt; omega⟩
    ⟨(j 0).val % 16 * 512 + (504 + (j 1).val), by have : (j 1).val < 8 := (j 1).isLt; omega⟩ (j 2)

theorem value9_at (t : Fin cfg0.N) (y : S512x1024.Idx) (b : Fin 2) (hb : b.val = t.val / 16) (r : Fin 8192)
    (hr : r.val = t.val % 16 * 512 + (y 0).val) (d : Fin 1024) (hd : d.val = (y 1).val) :
    (outsAt0 m c t.val t.isLt).1 y = Cert.FfnSpec.out (args m c) b r d := by
  have h0 : (y 0).val < 512 := (y 0).isLt
  have h1 : (y 1).val < 1024 := (y 1).isLt
  have hy : y = ix2 (⟨(y 0).val, h0⟩ : Fin 512) d := by
    blk_ext []
    all_goals omega
  have hN : t.val < 32 := t.isLt
  rw [hy, tiles m c t b (fun w => ⟨t.val % 16 * 512 + w.val, by omega⟩) hb (fun w => rfl)]
  congr 1
  exact Fin.ext hr.symm

theorem value10_at (t : Fin cfg0.N) (y : S1x8x5632.Idx) (b : Fin 2) (hb : b.val = t.val / 16) (r : Fin 8192)
    (hr : r.val = t.val % 16 * 512 + (504 + (y 1).val)) (K : Fin 5632) (hK : K.val = (y 2).val) :
    (outsAt0 m c t.val t.isLt).2.1 y = Cert.FfnSpec.up (args m c) b r K := by
  have h1 : (y 1).val < 8 := (y 1).isLt
  rw [tails m c t b (fun w => ⟨t.val % 16 * 512 + w.val, by omega⟩) hb (fun w => rfl) y ⟨504 + (y 1).val, by omega⟩ rfl K hK]
  congr 1
  exact Fin.ext hr.symm

theorem final9 : (dats (F := Ideal) m 0 c).arrAt 9 (cfgs 0).N = value9 m c := by
  refine (dats m 0 c).arrAt_eq_of_covers 9 _ (by decide +kernel) fun t hf y => ?_
  have hi := idx t
  blk_simp
  rw [after0_9]
  unfold value9
  refine value9_at m c t y _ ?_ _ ?_ _ ?_ <;> blk_simp [idx t] <;> idx_bounds <;> (try dsimp only) <;> omega

theorem final10 : (dats (F := Ideal) m 0 c).arrAt 10 (cfgs 0).N = value10 m c := by
  refine (dats m 0 c).arrAt_eq_of_covers 10 _ (by decide +kernel) fun t hf y => ?_
  have hi := idx t
  blk_simp
  rw [after0_10]
  unfold value10
  refine value10_at m c t y _ ?_ _ ?_ _ ?_ <;> blk_simp [idx t] <;> idx_bounds <;> (try dsimp only) <;> omega

end Cert.Kernel2Ideal.Point

end
-- ==== Proof.ProjSpec.lean ====
/- The input projection of the state-space mixer, from its arguments: the normed and modulated rows, the projection,
   the causal convolution over four rows with its gate, the step sizes and the summed decay exponents. -/
module

public import Mathlib.Data.EReal.Basic
public import Idealize.ShloMosaic.Lib.Pointwise

@[expose] public section

set_option maxRecDepth 16384

noncomputable section

namespace Cert.ProjSpec

open Idealize.ShloMosaic

/-- The call's arguments: the hidden rows, the norm's weights, the modulation, the projection's weights, those of the
    step sizes, the convolution's weights and bias, the step sizes' bias and the decays' logarithms. -/
structure Args where
  h : (⟨3, ![2, 8192, 1024]⟩ : Shape).Idx → EReal
  g : (⟨1, ![1024]⟩ : Shape).Idx → EReal
  m : (⟨2, ![2, 6144]⟩ : Shape).Idx → EReal
  w : (⟨2, ![1024, 5120]⟩ : Shape).Idx → EReal
  e : (⟨2, ![1024, 128]⟩ : Shape).Idx → EReal
  k : (⟨2, ![4, 3072]⟩ : Shape).Idx → EReal
  b : (⟨1, ![3072]⟩ : Shape).Idx → EReal
  d : (⟨1, ![128]⟩ : Shape).Idx → EReal
  a : (⟨1, ![128]⟩ : Shape).Idx → EReal

variable (A : Args)

/-- A normed row, scaled and shifted. -/
def normed (b : Fin 2) (t : Fin 8192) (d : Fin 1024) : EReal :=
  A.h (ix3 b t d) * Ideal.rsqrt (Ideal.div (∑ e, A.h (ix3 b t e) * A.h (ix3 b t e)) (Ideal.ofBits FTy.f32 1149239296#32)
      + Ideal.ofBits FTy.f32 897988541#32) * A.g (ix1 d)
    * (1 + A.m (ix2 b ⟨1024 + d.val, by omega⟩)) + A.m (ix2 b ⟨d.val, by omega⟩)

/-- The projection. -/
def proj (b : Fin 2) (t : Fin 8192) (k : Fin 5120) : EReal := ∑ d, normed A b t d * A.w (ix2 d k)

/-- The projection's columns that are convolved. -/
def inner (b : Fin 2) (t : Fin 8192) (k : Fin 3072) : EReal := proj A b t ⟨2048 + k.val, by omega⟩

/-- They `s` rows earlier, zero before the first row. -/
def past (s : ℕ) (b : Fin 2) (t : Fin 8192) (k : Fin 3072) : EReal :=
  if t.val < s then 0 else inner A b ⟨t.val - s, by omega⟩ k

/-- The causal convolution. -/
def conv (b : Fin 2) (t : Fin 8192) (k : Fin 3072) : EReal :=
  inner A b t k * A.k (ix2 (3 : Fin 4) k) + A.b (ix1 k) + past A 1 b t k * A.k (ix2 (2 : Fin 4) k)
    + past A 2 b t k * A.k (ix2 (1 : Fin 4) k) + past A 3 b t k * A.k (ix2 (0 : Fin 4) k)

/-- A convolved column, gated by itself. -/
def gated (b : Fin 2) (t : Fin 8192) (k : Fin 3072) : EReal := conv A b t k * Ideal.logistic (conv A b t k)

/-- The first result: the gate's columns as projected, then the convolved ones. -/
def columns (b : Fin 2) (t : Fin 8192) (k : Fin 5120) : EReal :=
  if h : k.val < 2048 then proj A b t k else gated A b t ⟨k.val - 2048, by omega⟩

/-- `log (1 + exp x)`. -/
def softplus (x : EReal) : EReal := max x 0 + Ideal.log (1 + Ideal.exp (-max x (-x)))

/-- The step sizes. -/
def dt (b : Fin 2) (t : Fin 8192) (l : Fin 128) : EReal := softplus ((∑ d, normed A b t d * A.e (ix2 d l)) + A.d (ix1 l))

/-- The decay exponents, summed from the start of the row's chunk of 128 rows. -/
def acum (b : Fin 2) (t : Fin 8192) (l : Fin 128) : EReal :=
  (∑ s : Fin 128, if s.val ≤ t.val % 128 then dt A b ⟨t.val / 128 * 128 + s.val, by omega⟩ l * -Ideal.exp (A.a (ix1 l)) else 0)
    * Ideal.ofBits FTy.f32 0x3FB8AA3B#32

end Cert.ProjSpec
end
-- ==== Proof.ProjSum.lean ====
/- Running sums of extended reals along the middle axis, and a finite nonnegative factor taken out of a sum. -/
module

public import Mathlib.Data.EReal.Operations
public import Mathlib.Algebra.BigOperators.Fin
public import Idealize.ShloMosaic.Lib.Pointwise

@[expose] public section

set_option maxRecDepth 16384

noncomputable section

namespace Cert.ProjSum

open Idealize.ShloMosaic

/-- Adding a list's values one after another. -/
theorem fold_add {α : Type} (g : α → EReal) (l : List α) (v : EReal) : l.foldl (fun r n => r + g n) v = v + (l.map g).sum := by
  induction l generalizing v with
  | nil => exact (add_zero v).symm
  | cons n l ih => rw [List.foldl_cons, ih, List.map_cons, List.sum_cons, add_assoc]

/-- The positions of a window that is wide in its middle axis alone. -/
def middle (n : ℕ) : (⟨3, ![1, n, 1]⟩ : Shape).Idx ≃ Fin n where
  toFun i := i 1
  invFun s := ix3 0 s 0
  left_inv i := funext fun a => match a with
    | ⟨0, _⟩ => (Subsingleton.elim (α := Fin 1) _ _ :)
    | ⟨1, _⟩ => rfl
    | ⟨2, _⟩ => (Subsingleton.elim (α := Fin 1) _ _ :)
  right_inv _ := rfl

/-- A window of the whole axis, padded in front by one less, sums what lies up to a position. -/
theorem window_sum (n : ℕ) (l : Fin (n + 1)) (f : Fin (n + 1) → EReal) :
    (∑ s : Fin (n + 1), if h : n ≤ l.val + s.val then f ⟨l.val + s.val - n, by omega⟩ else 0) = ∑ s : Fin (n + 1), if s.val ≤ l.val then f s else 0 := by
  rw [← Finset.sum_filter (fun s : Fin (n + 1) => s.val ≤ l.val) f]
  have e : ∀ s : Fin (n + 1), (if h : n ≤ l.val + s.val then f ⟨l.val + s.val - n, by omega⟩ else 0)
      = if n ≤ l.val + s.val then f ⟨l.val + s.val - n, by omega⟩ else 0 := fun s => by split <;> rfl
  rw [Finset.sum_congr rfl fun s _ => e s, ← Finset.sum_filter]
  refine Finset.sum_bij' (fun s _ => ⟨l.val + s.val - n, by omega⟩) (fun s hs => ⟨n + s.val - l.val, ?_⟩) ?_ ?_ ?_ ?_ ?_
  · have := (Finset.mem_filter.mp hs).2
    omega
  · intro s hs
    have := (Finset.mem_filter.mp hs).2
    simp only [Finset.mem_filter, Finset.mem_univ, true_and]
    omega
  · intro s hs
    have := (Finset.mem_filter.mp hs).2
    simp only [Finset.mem_filter, Finset.mem_univ, true_and]
    omega
  · intro s hs
    have := (Finset.mem_filter.mp hs).2
    apply Fin.ext
    dsimp only
    omega
  · intro s hs
    have := (Finset.mem_filter.mp hs).2
    apply Fin.ext
    dsimp only
    omega
  · intro s hs
    rfl

/-- The running sum along the middle axis, at an element. -/
theorem running (A B : ℕ) (n : ℕ) (x : (⟨3, ![A, n + 1, B]⟩ : Shape).Idx → EReal) (init : (⟨0, ![]⟩ : Shape).Idx → EReal) (h0 : ∀ i, init i = 0)
    (h : (⟨3, ![A, n + 1, B]⟩ : Shape).ReduceWindows (![1, n + 1, 1] : Fin 3 → ℕ) ![1, 1, 1] ![0, n, 0] ![0, 0, 0] ⟨3, ![A, n + 1, B]⟩)
    (hu : 0 < (⟨0, ![]⟩ : Shape).numel) (a : Fin A) (l : Fin (n + 1)) (b : Fin B) :
    Host.reduceWindow (fun u v : EReal => u + v) ![1, n + 1, 1] ![1, 1, 1] ![0, n, 0] ![0, 0, 0] x init h hu (ix3 a l b)
      = ∑ s : Fin (n + 1), if s.val ≤ l.val then x (ix3 a s b) else 0 := by
  refine Eq.trans ?_ (window_sum n l fun s => x (ix3 a s b))
  unfold Host.reduceWindow
  refine (fold_add _ _ _).trans ?_
  rw [h0, zero_add, ← Fin.sum_univ_def]
  rw [← Equiv.sum_comp ((middle (n + 1)).symm.trans (⟨3, ![1, n + 1, 1]⟩ : Shape).rowMajor)]
  refine Finset.sum_congr rfl fun s _ => ?_
  have hs : (⟨3, ![1, n + 1, 1]⟩ : Shape).rowMajor.symm (((middle (n + 1)).symm.trans (⟨3, ![1, n + 1, 1]⟩ : Shape).rowMajor) s) = ix3 0 s 0 :=
    Equiv.symm_apply_apply _ _
  have hsl := s.isLt
  have hl := l.isLt
  have ha := a.isLt
  have hb := b.isLt
  split
  · next hin =>
    have h1 := hin 1
    simp only [hs] at h1
    change n ≤ l.val * 1 + s.val ∧ l.val * 1 + s.val - n < n + 1 at h1
    rw [dif_pos (by omega)]
    refine congrArg x (funext fun c => Fin.ext ?_)
    simp only [hs]
    match c with
    | ⟨0, _⟩ => show a.val * 1 + 0 - 0 = a.val; omega
    | ⟨1, _⟩ => show l.val * 1 + s.val - n = l.val + s.val - n; omega
    | ⟨2, _⟩ => show b.val * 1 + 0 - 0 = b.val; omega
  · next hin =>
    rw [dif_neg]
    intro hle
    refine hin fun c => ?_
    simp only [hs]
    match c with
    | ⟨0, _⟩ => show 0 ≤ a.val * 1 + 0 ∧ a.val * 1 + 0 - 0 < A; omega
    | ⟨1, _⟩ => show n ≤ l.val * 1 + s.val ∧ l.val * 1 + s.val - n < n + 1; omega
    | ⟨2, _⟩ => show 0 ≤ b.val * 1 + 0 ∧ b.val * 1 + 0 - 0 < B; omega

/-- A finite nonnegative factor of every term of a sum is one of the sum. -/
theorem sum_scaled {ι : Type} (s : Finset ι) (f : ι → EReal) (c : EReal) (h0 : 0 ≤ c) (hc : c ≠ ⊤) : ∑ i ∈ s, f i * c = (∑ i ∈ s, f i) * c := by
  classical
  induction s using Finset.induction_on with
  | empty => rw [Finset.sum_empty, Finset.sum_empty, zero_mul]
  | insert a s ha ih => rw [Finset.sum_insert ha, Finset.sum_insert ha, ih, EReal.right_distrib_of_nonneg_of_ne_top h0 hc]

end Cert.ProjSum
end
-- ==== Proof.RefProj.lean ====
/- The reference's input projection read at an element. -/
module

public import proofs.«01_k».proof.Proof.ProjSpec
public import proofs.«01_k».proof.Proof.ProjSum
public import proofs.«01_k».proof.Proof.Gen.Reference3Ideal.Read
public import Idealize.ShloMosaic.Lib.Pointwise

@[expose] public section

set_option maxRecDepth 16384

noncomputable section

namespace Cert.RefProj

open Cert.Reference3Ideal Cert.Reference3Ideal.Gen Cert.Reference3Ideal.Read Idealize.ShloMosaic
open Idealize.ShloMosaic.StableHlo Cert.ProjSpec

variable (x0 : S2x8192x1024.Idx → EReal) (x1 : S1024.Idx → EReal) (x2 : S2x6144.Idx → EReal) (x3 : S1024x5120.Idx → EReal)
  (x4 : S1024x128.Idx → EReal) (x5 : S4x3072.Idx → EReal) (x6 : S3072.Idx → EReal) (x7 x8 : S128.Idx → EReal)

theorem normed_read (b : Fin 2) (t : Fin 8192) (d : Fin 1024) :
    val_main_v26 (F := Ideal) x0 x1 x2 (ix3 b t d) = normed ⟨x0, x1, x2, x3, x4, x5, x6, x7, x8⟩ b t d := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_cst, val_main_cst_0, val_main_cst_1, val_main_cst_2, val_main_v0, val_main_v1]
  rfl

theorem proj_read (b : Fin 2) (t : Fin 8192) (k : Fin 5120) :
    val_main_v27 (F := Ideal) x0 x1 x2 x3 (ix3 b t k) = proj ⟨x0, x1, x2, x3, x4, x5, x6, x7, x8⟩ b t k := by
  pointwise [val_main_v27]
  exact Finset.sum_congr rfl fun d _ => by rw [normed_read x0 x1 x2 x3 x4 x5 x6 x7 x8]

theorem inner_read (b : Fin 2) (t : Fin 8192) (k : Fin 3072) :
    val_main_v29 (F := Ideal) x0 x1 x2 x3 (ix3 b t k) = inner ⟨x0, x1, x2, x3, x4, x5, x6, x7, x8⟩ b t k := by
  pointwise [val_main_v29]
  exact proj_read x0 x1 x2 x3 x4 x5 x6 x7 x8 b t _

/-- The padded columns, `s` rows above a row. -/
theorem past_read (s : ℕ) (hs : s ≤ 3) (b : Fin 2) (t : Fin 8192) (r : Fin 8195) (hr : r.val + s = t.val + 3) (k : Fin 3072) :
    val_main_v31 (F := Ideal) x0 x1 x2 x3 (ix3 b r k) = past ⟨x0, x1, x2, x3, x4, x5, x6, x7, x8⟩ s b t k := by
  have ht := t.isLt
  pointwise [val_main_v31, val_main_v30, val_main_cst_3]
  unfold past
  by_cases h : t.val < s
  · rw [dif_pos (by omega), if_pos h]
  · rw [dif_neg (by omega), if_neg h, inner_read x0 x1 x2 x3 x4 x5 x6 x7 x8]
    congr 1
    apply Fin.ext
    show r.val - 3 = t.val - s
    omega

theorem past_zero (A : Args) (b : Fin 2) (t : Fin 8192) (k : Fin 3072) : past A 0 b t k = inner A b t k := if_neg (Nat.not_lt_zero _)

theorem conv_read (b : Fin 2) (t : Fin 8192) (k : Fin 3072) :
    val_main_v63 (F := Ideal) x0 x1 x2 x3 x5 x6 (ix3 b t k) = conv ⟨x0, x1, x2, x3, x4, x5, x6, x7, x8⟩ b t k := by
  have ht := t.isLt
  pointwise [val_main_v63, val_main_v62, val_main_v61, val_main_v60, val_main_v59, val_main_v58, val_main_v57, val_main_v56, val_main_v55,
    val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36,
    val_main_v35, val_main_v34, val_main_v33, val_main_v32, val_main_cst_4]
  rw [past_read x0 x1 x2 x3 x4 x5 x6 x7 x8 3 (by omega) b t _ (by dsimp only), past_read x0 x1 x2 x3 x4 x5 x6 x7 x8 2 (by omega) b t _ (by dsimp only; omega),
    past_read x0 x1 x2 x3 x4 x5 x6 x7 x8 1 (by omega) b t _ (by dsimp only; omega), past_read x0 x1 x2 x3 x4 x5 x6 x7 x8 0 (by omega) b t _ (by dsimp only; omega),
    past_zero]
  unfold conv
  generalize past _ 3 b t k * _ = p
  generalize past _ 2 b t k * _ = q
  generalize past _ 1 b t k * _ = r
  generalize inner _ b t k * _ = s
  show p + q + r + s + x6 (ix1 k) = s + x6 (ix1 k) + r + q + p
  ac_rfl

theorem gated_read (b : Fin 2) (t : Fin 8192) (k : Fin 3072) :
    val_main_v78 (F := Ideal) x0 x1 x2 x3 x5 x6 (ix3 b t k) = gated ⟨x0, x1, x2, x3, x4, x5, x6, x7, x8⟩ b t k := by
  pointwise [val_main_v78, val_main_call2_v5, val_main_call2_v4, val_main_call2_v3, val_main_call2_v2,
    val_main_call2_v1, val_main_call2_v0, val_main_call2_cst, val_main_call2_cst_0]
  rw [conv_read x0 x1 x2 x3 x4 x5 x6 x7 x8]
  rfl

theorem columns_read (b : Fin 2) (t : Fin 8192) (k : Fin 5120) :
    val_main_v79 (F := Ideal) x0 x1 x2 x3 x5 x6 (ix3 b t k) = columns ⟨x0, x1, x2, x3, x4, x5, x6, x7, x8⟩ b t k := by
  pointwise [val_main_v79, val_main_v28]
  unfold columns
  split
  · exact proj_read x0 x1 x2 x3 x4 x5 x6 x7 x8 b t _
  · exact gated_read x0 x1 x2 x3 x4 x5 x6 x7 x8 b t _

theorem dt_read (b : Fin 2) (t : Fin 8192) (l : Fin 128) :
    val_main_v68 (F := Ideal) x0 x1 x2 x4 x7 (ix3 b t l) = dt ⟨x0, x1, x2, x3, x4, x5, x6, x7, x8⟩ b t l := by
  have e : val_main_v67 (F := Ideal) x0 x1 x2 x4 x7 (ix3 b t l) = (∑ d, normed ⟨x0, x1, x2, x3, x4, x5, x6, x7, x8⟩ b t d * x4 (ix2 d l)) + x7 (ix1 l) := by
    pointwise [val_main_v67, val_main_v66, val_main_v65, val_main_v64]
    simp only [normed_read x0 x1 x2 x3 x4 x5 x6 x7 x8]
  pointwise [val_main_v68, val_main_call0_v11, val_main_call0_v10, val_main_call0_v9, val_main_call0_v8, val_main_call0_v7, val_main_call0_v6, val_main_call0_v5,
    val_main_call0_v4, val_main_call0_v3, val_main_call0_v2, val_main_call0_v1, val_main_call0_v0, val_main_call0_cst]
  rw [e, if_neg fun h => h rfl]
  rfl

theorem acum_read (c : Fin 128) (l : Fin 128) (k : Fin 128) (b : Fin 2) (hb : b.val = c.val / 64) (t : Fin 8192) (ht : t.val = c.val % 64 * 128 + l.val) :
    val_main_v77 (F := Ideal) x0 x1 x2 x4 x7 x8 (ix3 c l k) = acum ⟨x0, x1, x2, x3, x4, x5, x6, x7, x8⟩ b t k := by
  have e : val_main_v75 (F := Ideal) x0 x1 x2 x4 x7 x8 (ix3 c l k)
      = ∑ s : Fin 128, if s.val ≤ l.val then val_main_v74 (F := Ideal) x0 x1 x2 x4 x7 x8 (ix3 c s k) else 0 :=
    Cert.ProjSum.running 128 128 127 _ _ (fun i => by pointwise [val_main_call1_call0_v0, val_main_call1_call0_cst]) (by decide) (by decide) c l k
  pointwise [val_main_v77, val_main_v76, val_main_cst_5]
  rw [e]
  unfold acum
  congr 1
  refine Finset.sum_congr rfl fun s _ => ?_
  refine Eq.trans (if_congr (show s.val ≤ l.val ↔ s.val ≤ t.val % 128 by omega) ?_ rfl) rfl
  pointwise [val_main_v74, val_main_v73, val_main_v72, val_main_v71, val_main_v70, val_main_v69]
  rw [dt_read x0 x1 x2 x3 x4 x5 x6 x7 x8]
  congr 2
  · apply Fin.ext
    dsimp only
    omega
  · apply Fin.ext
    dsimp only
    omega

/-- The first result. -/
theorem columns_result (r : Fin 16384) (b : Fin 2) (hb : b.val = r.val / 8192) (t : Fin 8192) (ht : t.val = r.val % 8192) (k : Fin 5120) :
    val_main_v80 (F := Ideal) x0 x1 x2 x3 x5 x6 (ix2 r k) = columns ⟨x0, x1, x2, x3, x4, x5, x6, x7, x8⟩ b t k := by
  have hb' : r.val / 8192 < 2 := by omega
  have ht' : r.val % 8192 < 8192 := by omega
  obtain rfl : b = ⟨r.val / 8192, hb'⟩ := Fin.ext hb
  obtain rfl : t = ⟨r.val % 8192, ht'⟩ := Fin.ext ht
  pointwise [val_main_v80]
  exact columns_read x0 x1 x2 x3 x4 x5 x6 x7 x8 _ _ _

/-- The step sizes. -/
theorem dt_result (r : Fin 16384) (b : Fin 2) (hb : b.val = r.val / 8192) (t : Fin 8192) (ht : t.val = r.val % 8192) (k : Fin 128) :
    val_main_v81 (F := Ideal) x0 x1 x2 x4 x7 (ix2 r k) = dt ⟨x0, x1, x2, x3, x4, x5, x6, x7, x8⟩ b t k := by
  have hb' : r.val / 8192 < 2 := by omega
  have ht' : r.val % 8192 < 8192 := by omega
  obtain rfl : b = ⟨r.val / 8192, hb'⟩ := Fin.ext hb
  obtain rfl : t = ⟨r.val % 8192, ht'⟩ := Fin.ext ht
  pointwise [val_main_v81]
  exact dt_read x0 x1 x2 x3 x4 x5 x6 x7 x8 _ _ _

/-- The last rows of each stretch of 512 rows of the convolved columns, before the convolution. -/
theorem tail_result (r : Fin 32) (b : Fin 2) (hb : b.val = r.val / 16) (s : Fin 8) (t : Fin 8192) (ht : t.val = r.val % 16 * 512 + (504 + s.val)) (k : Fin 3072) :
    val_main_v83 (F := Ideal) x0 x1 x2 x3 (ix3 r s k) = inner ⟨x0, x1, x2, x3, x4, x5, x6, x7, x8⟩ b t k := by
  have hb' : r.val / 16 < 2 := by omega
  have ht' : r.val % 16 * 512 + (504 + s.val) < 8192 := by omega
  obtain rfl : b = ⟨r.val / 16, hb'⟩ := Fin.ext hb
  obtain rfl : t = ⟨r.val % 16 * 512 + (504 + s.val), ht'⟩ := Fin.ext ht
  pointwise [val_main_v83, val_main_v82]
  exact inner_read x0 x1 x2 x3 x4 x5 x6 x7 x8 _ _ _

/-- The summed decay exponents. -/
theorem acum_result (r : Fin 16384) (b : Fin 2) (hb : b.val = r.val / 8192) (t : Fin 8192) (ht : t.val = r.val % 8192) (k : Fin 128) :
    val_main_v84 (F := Ideal) x0 x1 x2 x4 x7 x8 (ix2 r k) = acum ⟨x0, x1, x2, x3, x4, x5, x6, x7, x8⟩ b t k := by
  pointwise [val_main_v84]
  exact acum_read x0 x1 x2 x3 x4 x5 x6 x7 x8 _ _ _ b (by dsimp only; omega) t (by dsimp only; omega)

/-- They, each chunk of rows turned over. -/
theorem turned_result (c : Fin 128) (k l : Fin 128) (b : Fin 2) (hb : b.val = c.val / 64) (t : Fin 8192) (ht : t.val = c.val % 64 * 128 + l.val) :
    val_main_v85 (F := Ideal) x0 x1 x2 x4 x7 x8 (ix3 c k l) = acum ⟨x0, x1, x2, x3, x4, x5, x6, x7, x8⟩ b t k := by
  pointwise [val_main_v85]
  exact acum_read x0 x1 x2 x3 x4 x5 x6 x7 x8 _ _ _ b hb t ht

end Cert.RefProj
end
-- ==== Proof.ProjJoin.lean ====
/- Rows read back from the small scratch that joins the eight rows before a tile with its first eight. -/
module

public import proofs.«01_k».proof.Proof.Gen.Kernel3Ideal.Value
public import Idealize.ShloMosaic.Lib.Pointwise
public import Idealize.ShloMosaic.Lib.Pipeline.ValueKit
public import Idealize.ShloMosaic.Lib.Pipeline.ReadBack
public import Mathlib.Data.EReal.Basic

@[expose] public section

set_option maxRecDepth 16384

noncomputable section

namespace Cert.ProjJoin

open Cert.Kernel3Ideal Cert.Kernel3Ideal.Gen Idealize.ShloMosaic Idealize.ShloMosaic.TcCoe Idealize.SL.Sem

/-- Eight rows starting `s` rows before a tile: the last `s` of the carried rows, then the tile's own. -/
def joined (s : ℕ) (C U : S8x256.Idx → EReal) (j : S8x256.Idx) : EReal :=
  if h : (j 0).val < s then C (ix2 ⟨(8 - s + (j 0).val) % 8, Nat.mod_lt _ (by decide)⟩ (j 1))
  else U (ix2 ⟨((j 0).val - s) % 8, Nat.mod_lt _ (by decide)⟩ (j 1))

/-- A read of eight rows that starts `s` rows before the stored tile's rows. -/
theorem joined_of (v : View sig .tc .vmem S16x256 .f32) (o s : ℕ) (ho : o + s = 8) (i8 i0 io)
    (U C : S8x256.Idx → Ideal .f32) (L : List (View.Piece (Elt Ideal) S16x256 .f32)) :
    v.readCov (⟨Rect.unit (s := S16x256) ![8, 0] ![8, 256] i8, U⟩ :: ⟨Rect.unit (s := S16x256) ![0, 0] ![8, 256] i0, C⟩ :: L)
      (Rect.unit (s := S16x256) ![o, 0] ![8, 256] io).toLoadRect = joined s C U := by
  rw [View.readCov_eq_canon']
  funext j
  have h0 : (j 0).val < 8 := (j 0).isLt
  unfold joined
  split
  · rename_i h
    rw [View.canon_cons_of_not_mem]
    · have := View.canon_cons_emb (Val := Elt Ideal) (Rect.unit (s := S16x256) ![0, 0] ![8, 256] i0) C L (ix2 ⟨(8 - s + (j 0).val) % 8, Nat.mod_lt _ (by decide)⟩ (j 1))
      refine Eq.trans (congrArg _ ?_) this
      funext a
      apply Fin.ext
      fin_cases a <;> simp [Rect.toLoadRect, ix2] <;> omega
    · intro hm
      have := (Rect.mem_set_unit (inb := i8).mp hm) 0
      simp [Rect.toLoadRect] at this
      omega
  · rename_i h
    have := View.canon_cons_emb (Val := Elt Ideal) (Rect.unit (s := S16x256) ![8, 0] ![8, 256] i8) U
      (⟨Rect.unit (s := S16x256) ![0, 0] ![8, 256] i0, C⟩ :: L) (ix2 ⟨((j 0).val - s) % 8, Nat.mod_lt _ (by decide)⟩ (j 1))
    refine Eq.trans (congrArg _ ?_) this
    funext a
    apply Fin.ext
    fin_cases a <;> simp [Rect.toLoadRect, ix2] <;> omega

variable (v : View sig .tc .vmem S16x256 .f32) (i8 i0 io) (U C : S8x256.Idx → Ideal .f32) (L : List (View.Piece (Elt Ideal) S16x256 .f32))

/-- The read one row before the tile's rows. -/
theorem joined_one :
    v.readCov (⟨Rect.unit (s := S16x256) ![8, 0] ![8, 256] i8, U⟩ :: ⟨Rect.unit (s := S16x256) ![0, 0] ![8, 256] i0, C⟩ :: L)
      (Rect.unit (s := S16x256) ![7, 0] ![8, 256] io).toLoadRect = joined 1 C U :=
  joined_of v 7 1 rfl i8 i0 io U C L

/-- The read two rows before the tile's rows. -/
theorem joined_two :
    v.readCov (⟨Rect.unit (s := S16x256) ![8, 0] ![8, 256] i8, U⟩ :: ⟨Rect.unit (s := S16x256) ![0, 0] ![8, 256] i0, C⟩ :: L)
      (Rect.unit (s := S16x256) ![6, 0] ![8, 256] io).toLoadRect = joined 2 C U :=
  joined_of v 6 2 rfl i8 i0 io U C L

/-- The read three rows before the tile's rows. -/
theorem joined_three :
    v.readCov (⟨Rect.unit (s := S16x256) ![8, 0] ![8, 256] i8, U⟩ :: ⟨Rect.unit (s := S16x256) ![0, 0] ![8, 256] i0, C⟩ :: L)
      (Rect.unit (s := S16x256) ![5, 0] ![8, 256] io).toLoadRect = joined 3 C U :=
  joined_of v 5 3 rfl i8 i0 io U C L

end Cert.ProjJoin
end
-- ==== Proof.ProjRows.lean ====
/- One chunk of 256 columns of the input projection and one chunk of 128 rows of the decays, as the kernel computes
   them, read at an element. -/
module

public import proofs.«01_k».proof.Proof.ProjJoin
public import proofs.«01_k».proof.Proof.ProjSpec
public import proofs.«01_k».proof.Proof.ProjSum
public import Idealize.ShloMosaic.Lib.WordCmp

@[expose] public section

set_option maxRecDepth 16384

noncomputable section

namespace Cert.ProjRows

open Cert.Kernel3Ideal Cert.Kernel3Ideal.Gen Idealize.ShloMosaic Idealize.ShloMosaic.TcCoe Idealize.SL.Sem Cert.ProjJoin

/-- The chunk's projected columns. -/
def proj (x : FVec Ideal S512x1024 .bf16) (w : Vec Ideal S1024x256 .bf16) : FVec Ideal S512x256 .f32 :=
  matmul dot_S512x1024_S1024x256_S512x256_1_0_0_1_n_n none x (shapeCast S1024x256 w shapeCasts_S1024x256_S1024x256 : FVec Ideal S1024x256 .bf16)
    (constant S512x256 .f32 0x00000000#32)

/-- The first eight rows of a tile. -/
def first (u : FVec Ideal S512x256 .f32) : FVec Ideal S8x256 .f32 :=
  shapeCast S8x256 (extractStridedSlice S8x256 ![0, 0] u slices_S512x256_o0_0_S8x256) shapeCasts_S8x256_S8x256

/-- The eight rows carried from the tile before. -/
def before (r : Vec Ideal S8x256 .f32) : FVec Ideal S8x256 .f32 := shapeCast S8x256 r shapeCasts_S8x256_S8x256

/-- A row of weights over a tile's rows. -/
def over (w : FVec Ideal S1x256 .f32) : FVec Ideal S512x256 .f32 := broadcastTo S512x256 w broadcasts_S1x256_S512x256

/-- A row of weights over eight rows. -/
def over8 (w : FVec Ideal S1x256 .f32) : FVec Ideal S8x256 .f32 := broadcastTo S8x256 w broadcasts_S1x256_S8x256

/-- The convolution of a tile, each row with the rows above it in the tile, cyclically. -/
def rolled (u : FVec Ideal S512x256 .f32) (w0 w1 w2 w3 b : FVec Ideal S1x256 .f32) : FVec Ideal S512x256 .f32 :=
  addf (addf (addf (addf (mulf u (over w3)) (over b)) (mulf (dynamicRotate 0 1#32 none u rotates_S512x256_d0) (over w2)))
    (mulf (dynamicRotate 0 2#32 none u rotates_S512x256_d0) (over w1))) (mulf (dynamicRotate 0 3#32 none u rotates_S512x256_d0) (over w0))

/-- The convolution of the tile's first eight rows, with the carried rows above them. -/
def fixed (u : FVec Ideal S512x256 .f32) (r : Vec Ideal S8x256 .f32) (w0 w1 w2 w3 b : FVec Ideal S1x256 .f32) : FVec Ideal S8x256 .f32 :=
  addf (addf (addf (addf (mulf (first u) (over8 w3)) (over8 b)) (mulf (joined 1 (before r) (first u) : Vec Ideal S8x256 .f32) (over8 w2)))
    (mulf (joined 2 (before r) (first u) : Vec Ideal S8x256 .f32) (over8 w1))) (mulf (joined 3 (before r) (first u) : Vec Ideal S8x256 .f32) (over8 w0))

/-- The convolution of a tile. -/
def conv (u : FVec Ideal S512x256 .f32) (r : Vec Ideal S8x256 .f32) (w0 w1 w2 w3 b : FVec Ideal S1x256 .f32) : FVec Ideal S512x256 .f32 :=
  concatenate S512x256 0 [⟨S8x256, fixed u r w0 w1 w2 w3 (shapeCast S1x256 b shapeCasts_S1x256_S1x256)⟩,
    ⟨S504x256, extractStridedSlice S504x256 ![8, 0] (rolled u w0 w1 w2 w3 (shapeCast S1x256 b shapeCasts_S1x256_S1x256)) slices_S512x256_o8_0_S504x256⟩]
    concatenates_S8x256_S504x256_S512x256_d0

/-- A chunk of the convolved and gated columns. -/
def chunk (x : FVec Ideal S512x1024 .bf16) (w : Vec Ideal S1024x256 .bf16) (r : Vec Ideal S8x256 .f32) (w0 w1 w2 w3 b : Vec Ideal S1x256 .f32) :
    FVec Ideal S512x256 .f32 :=
  mulf (conv (proj x w) r w0 w1 w2 w3 b) (logistic (conv (proj x w) r w0 w1 w2 w3 b))

theorem proj_apply (x : FVec Ideal S512x1024 .bf16) (w : Vec Ideal S1024x256 .bf16) (v : Fin 512) (k : Fin 256) :
    proj x w (ix2 v k) = (∑ d, x (ix2 v d) * w (ix2 d k) : EReal) := by
  pointwise [proj]

/-- The row of a column `s` rows above: in the tile, or among the carried rows. -/
def above (s : ℕ) (u : FVec Ideal S512x256 .f32) (r : Vec Ideal S8x256 .f32) (v : Fin 512) (k : Fin 256) : EReal :=
  if v.val < s then r (ix2 (⟨(8 - s + v.val) % 8, Nat.mod_lt _ (by decide)⟩ : Fin 8) k) else u (ix2 (⟨v.val - s, by omega⟩ : Fin 512) k)

theorem joined_apply (s : ℕ) (u : FVec Ideal S512x256 .f32) (r : Vec Ideal S8x256 .f32) (v : Fin 8) (k : Fin 256) (w : Fin 512) (hw : w.val = v.val) :
    joined s (before r) (first u) (ix2 v k) = above s u r w k := by
  have e : joined s (before r) (first u) (ix2 v k)
      = if h : v.val < s then before r (ix2 (⟨(8 - s + v.val) % 8, Nat.mod_lt _ (by decide)⟩ : Fin 8) k)
        else first u (ix2 (⟨(v.val - s) % 8, Nat.mod_lt _ (by decide)⟩ : Fin 8) k) := rfl
  rw [e]
  unfold above
  by_cases h : v.val < s
  · rw [dif_pos h, if_pos (by omega)]
    pointwise [before]
    simp only [hw]
  · rw [dif_neg h, if_neg (by omega)]
    pointwise [first]
    refine congrArg u ?_
    blk_ext []

theorem fixed_apply (u : FVec Ideal S512x256 .f32) (r : Vec Ideal S8x256 .f32) (w0 w1 w2 w3 b : FVec Ideal S1x256 .f32) (v : Fin 8) (k : Fin 256)
    (w : Fin 512) (hw : w.val = v.val) :
    fixed u r w0 w1 w2 w3 b (ix2 v k) = (u (ix2 w k) * w3 (ix2 (0 : Fin 1) k) + b (ix2 (0 : Fin 1) k)
      + above 1 u r w k * w2 (ix2 (0 : Fin 1) k) + above 2 u r w k * w1 (ix2 (0 : Fin 1) k) + above 3 u r w k * w0 (ix2 (0 : Fin 1) k) : EReal) := by
  rw [← joined_apply 1 u r v k w hw, ← joined_apply 2 u r v k w hw, ← joined_apply 3 u r v k w hw]
  have hlt : v.val < 512 := by omega
  obtain rfl : w = ⟨v.val, hlt⟩ := Fin.ext hw
  have e : first u (ix2 v k) = u (ix2 (⟨v.val, hlt⟩ : Fin 512) k) := by pointwise [first]
  unfold fixed
  rw [← e]
  generalize first u = f
  pointwise [over8]

theorem rolled_apply (u : FVec Ideal S512x256 .f32) (r : Vec Ideal S8x256 .f32) (w0 w1 w2 w3 b : FVec Ideal S1x256 .f32) (v : Fin 512) (hv : ¬ v.val < 8) (k : Fin 256) :
    rolled u w0 w1 w2 w3 b (ix2 v k) = (u (ix2 v k) * w3 (ix2 (0 : Fin 1) k) + b (ix2 (0 : Fin 1) k)
      + above 1 u r v k * w2 (ix2 (0 : Fin 1) k) + above 2 u r v k * w1 (ix2 (0 : Fin 1) k) + above 3 u r v k * w0 (ix2 (0 : Fin 1) k) : EReal) := by
  have e (s : ℕ) (hs : s ≤ 3) : above s u r v k = u (ix2 (⟨(v.val + 512 - s) % 512, Nat.mod_lt _ (by decide)⟩ : Fin 512) k) := by
    unfold above
    rw [if_neg (by omega)]
    refine congrArg u ?_
    blk_ext []
  rw [e 1 (by omega), e 2 (by omega), e 3 (by omega)]
  pointwise [rolled, over]

theorem conv_apply (u : FVec Ideal S512x256 .f32) (r : Vec Ideal S8x256 .f32) (w0 w1 w2 w3 b : FVec Ideal S1x256 .f32) (v : Fin 512) (k : Fin 256) :
    conv u r w0 w1 w2 w3 b (ix2 v k) = (u (ix2 v k) * w3 (ix2 (0 : Fin 1) k) + b (ix2 (0 : Fin 1) k)
      + above 1 u r v k * w2 (ix2 (0 : Fin 1) k) + above 2 u r v k * w1 (ix2 (0 : Fin 1) k) + above 3 u r v k * w0 (ix2 (0 : Fin 1) k) : EReal) := by
  pointwise [conv]
  split
  · exact fixed_apply u r w0 w1 w2 w3 b _ k v rfl
  · rename_i h
    refine Eq.trans (rolled_apply u r w0 w1 w2 w3 b _ (by simp) k) ?_
    have e : (⟨8 + (v.val - 8), by omega⟩ : Fin 512) = v := Fin.ext (by show 8 + (v.val - 8) = v.val; omega)
    rw [e]

theorem chunk_apply (x : FVec Ideal S512x1024 .bf16) (w : Vec Ideal S1024x256 .bf16) (r : Vec Ideal S8x256 .f32) (w0 w1 w2 w3 b : Vec Ideal S1x256 .f32)
    (v : Fin 512) (k : Fin 256) :
    chunk x w r w0 w1 w2 w3 b (ix2 v k)
      = (conv (proj x w) r w0 w1 w2 w3 b (ix2 v k) * Ideal.logistic (conv (proj x w) r w0 w1 w2 w3 b (ix2 v k)) : EReal) := by
  pointwise [chunk]

theorem norm_apply (v0 : Vec Ideal S512x1024 .f32) (v12 : Vec Ideal S1x1024 .f32) (v16 : Vec Ideal S1x1x1024 .f32) (v22 : Vec Ideal S1x1x1024 .f32)
    (v : Fin 512) (k : Fin 1024) :
    k0_pay2 v0 v12 v16 v22 (ix2 v k) = (v0 (ix2 v k) * Ideal.rsqrt (Ideal.div (∑ e, v0 (ix2 v e) * v0 (ix2 v e)) (Ideal.ofBits FTy.f32 1149239296#32)
      + Ideal.ofBits FTy.f32 897988541#32) * v12 (ix2 (0 : Fin 1) k)
    * (1 + v16 (ix3 (0 : Fin 1) (0 : Fin 1) k)) + v22 (ix3 (0 : Fin 1) (0 : Fin 1) k) : EReal) := by
  pointwise [k0_pay2]

/-! The decays. -/

/-- The step sizes' rows before their softplus. -/
def raw (x : FVec Ideal S512x1024 .bf16) (w : Vec Ideal S1024x128 .bf16) : FVec Ideal S512x128 .f32 :=
  matmul dot_S512x1024_S1024x128_S512x128_1_0_0_1_n_n none x (shapeCast S1024x128 w shapeCasts_S1024x128_S1024x128 : FVec Ideal S1024x128 .bf16)
    (constant S512x128 .f32 0x00000000#32)

/-- A row of numbers over a chunk's rows. -/
def across (w : FVec Ideal S1x128 .f32) : FVec Ideal S128x128 .f32 := broadcastTo S128x128 w broadcasts_S1x128_S128x128

/-- The softplus of a chunk's step sizes. -/
def soft (y : FVec Ideal S128x128 .f32) : FVec Ideal S128x128 .f32 :=
  addf (maximumf y (broadcast S128x128 (Scalar.ofBits .f32 0x00000000#32)))
    (log (addf (broadcast S128x128 (Scalar.ofBits .f32 0x3F800000#32)) (exp (subf (broadcast S128x128 (Scalar.ofBits .f32 0x00000000#32)) (absf y)))))

/-- The chunk of 128 rows that begins at a row, with the bias, softened. -/
def steps (x : FVec Ideal S512x1024 .bf16) (w : Vec Ideal S1024x128 .bf16) (d : Vec Ideal S1x128 .f32) (o : Fin 2 → ℕ) (ho : S512x128.Slices o S128x128) :
    FVec Ideal S128x128 .f32 :=
  soft (addf (extractStridedSlice S128x128 o (raw x w) ho) (across (shapeCast S1x128 d shapeCasts_S1x128_S1x128)))

/-- The summed decay exponents of a chunk, from its step sizes. -/
def summed (y : FVec Ideal S128x128 .f32) (a : Vec Ideal S1x128 .f32) : FVec Ideal S128x128 .f32 :=
  matmul dot_S128x128_S128x128_S128x128_1_0_0_1_n_n (some .fp32)
    (select (cmpi .sge (iota .tc S128x128 32 [0] iota_S128x128_d0_w32) (iota .tc S128x128 32 [1] iota_S128x128_d1_w32))
      (broadcast S128x128 (Scalar.ofBits .f32 0x3F800000#32 : Ideal .f32)) (broadcast S128x128 (Scalar.ofBits .f32 0x00000000#32 : Ideal .f32)) : FVec Ideal S128x128 .f32)
    (mulf y (across (mulf (subf (broadcast S1x128 (Scalar.ofBits .f32 0x00000000#32)) (exp (shapeCast S1x128 a shapeCasts_S1x128_S1x128 : FVec Ideal S1x128 .f32)))
      (broadcast S1x128 (Scalar.ofBits .f32 0x3FB8AA3B#32)))))
    (constant S128x128 .f32 0x00000000#32)

/-- They, turned over. -/
def turned (y : FVec Ideal S128x128 .f32) (a : Vec Ideal S1x128 .f32) : FVec Ideal S1x128x128 .f32 :=
  shapeCast S1x128x128 (transpose S128x128 [1, 0] (summed y a) transposes_S128x128_p1_0_S128x128) shapeCasts_S128x128_S1x128x128

theorem soft_apply (y : FVec Ideal S128x128 .f32) (v k : Fin 128) : soft y (ix2 v k) = Cert.ProjSpec.softplus (y (ix2 v k)) := by
  pointwise [soft]
  rw [zero_sub]
  rfl

theorem steps_apply (x : FVec Ideal S512x1024 .bf16) (w : Vec Ideal S1024x128 .bf16) (d : Vec Ideal S1x128 .f32) (o : ℕ) (ho : S512x128.Slices ![o, 0] S128x128)
    (v k : Fin 128) (r : Fin 512) (hr : r.val = o + v.val) :
    steps x w d ![o, 0] ho (ix2 v k) = Cert.ProjSpec.softplus ((∑ e, x (ix2 r e) * w (ix2 e k) : EReal) + d (ix2 (0 : Fin 1) k)) := by
  have hlt : o + v.val < 512 := by omega
  obtain rfl : r = ⟨o + v.val, hlt⟩ := Fin.ext hr
  refine (soft_apply _ v k).trans (congrArg _ ?_)
  pointwise [raw, across]

/-- The constant the exponents are scaled by is a nonnegative real. -/
theorem scale_real : ∃ r : ℝ, 0 ≤ r ∧ Ideal.ofBits FTy.f32 0x3FB8AA3B#32 = (r : EReal) :=
  ⟨12102203 / 8388608, by norm_num, by simp [Ideal.ofBits, Ideal.ieee, -EReal.coe_mul]; norm_num⟩

/-- A choice by the order of two rows. -/
theorem choose_le (a b : ℕ) (ha : a < 128) (hb : b < 128) (x y : EReal) :
    Scalar.select (IntOp.cmpi .sge (BitVec.ofNat 32 a) (BitVec.ofNat 32 b)) x y = if b ≤ a then x else y := by
  rw [WordCmp.cmpi_sge_ofNat (by omega) (by omega)]
  by_cases h : b ≤ a
  · rw [if_pos h, decide_eq_true h]
    rfl
  · rw [if_neg h, decide_eq_false h]
    rfl

theorem summed_apply (y : FVec Ideal S128x128 .f32) (a : Vec Ideal S1x128 .f32) (v k : Fin 128) :
    summed y a (ix2 v k) = (∑ s : Fin 128, if s.val ≤ v.val then y (ix2 s k) * -Ideal.exp (a (ix2 (0 : Fin 1) k)) else 0 : EReal)
      * Ideal.ofBits FTy.f32 0x3FB8AA3B#32 := by
  pointwise [summed, across]
  obtain ⟨r, hr, e⟩ := scale_real
  rw [e, ← Cert.ProjSum.sum_scaled _ _ _ (EReal.coe_nonneg.mpr hr) (EReal.coe_ne_top r)]
  refine Finset.sum_congr rfl fun s _ => ?_
  rw [choose_le v.val s.val v.isLt s.isLt, zero_sub]
  split
  · exact (mul_assoc _ _ _).symm
  · exact (zero_mul _).symm

theorem turned_apply (y : FVec Ideal S128x128 .f32) (a : Vec Ideal S1x128 .f32) (v k : Fin 128) :
    turned y a (ix3 (0 : Fin 1) k v) = summed y a (ix2 v k) := by
  pointwise [turned]

end Cert.ProjRows
end
-- ==== Proof.ProjBlocks.lean ====
/- The blocks of the input projection's windows, read as elements of the arrays the call is given, and what the
   body loads of them for a chunk of columns. -/
module

public import proofs.«01_k».proof.Proof.ProjSpec
public import proofs.«01_k».proof.Proof.Gen.Kernel3Ideal.Value
import Idealize.ShloMosaic.Lib.Pointwise
import Idealize.ShloMosaic.Lib.Pipeline.ValueKit
import Idealize.ShloMosaic.Lib.Claim

@[expose] public section

set_option maxRecDepth 16384

noncomputable section

namespace Cert.Kernel3Ideal.Blocks

open Cert.Kernel3Ideal Cert.Kernel3Ideal.Gen Idealize.ShloMosaic Idealize.ShloMosaic.TcCoe Idealize.SL.Sem

/-- The windows' block indices: grid point `t` is the tile of rows `512 * t ..` over both sequences. -/
theorem idx : ∀ t : Fin cfg0.N,
    win0_0.index t = ![t.val, 0] ∧ win0_1.index t = ![0, 0] ∧ win0_2.index t = ![t.val / 16, 0, 0] ∧ win0_3.index t = ![t.val / 16, 0, 1]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val, 0]
    ∧ win0_12.index t = ![t.val, 0, 0] ∧ win0_13.index t = ![t.val, 0] ∧ win0_14.index t = ![t.val, 0, 0] ∧ t.val < 32 :=
  (by decide +kernel : ∀ t : Fin grid0.N, _)

variable (m : (ℓ : Loc nD τ sig) → Buf (Elt Ideal) ℓ) (c : Dev nD) (t : Fin cfg0.N)

/-- The call's arguments. -/
def args : Cert.ProjSpec.Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5), m ((c : Thread nD τ).loc main_arg6),
    m ((c : Thread nD τ).loc main_arg7), m ((c : Thread nD τ).loc main_arg8)⟩

/-- The hidden rows. -/
theorem rows (b : Fin 2) (hb : b.val = t.val / 16) (r : Fin 8192) (v : Fin 512) (hr : r.val = t.val % 16 * 512 + v.val) (d : Fin 1024) :
    iblk m c 0 t (ix2 v d) = m ((c : Thread nD τ).loc main_arg0) (ix3 b r d) := by
  have hd := idx t
  blk_simp [iblk, idx t]
  entry_read
  pointwise
  blk_ext [idx t]

/-- The norm's weights. -/
theorem weight (d : Fin 1024) :
    iblk m c 1 t (ix2 (0 : Fin 1) d) = m ((c : Thread nD τ).loc main_arg1) (ix1 d) := by
  have hd := idx t
  blk_simp [iblk, idx t]
  entry_read
  pointwise
  blk_ext [idx t]

/-- The shift. -/
theorem shift (b : Fin 2) (hb : b.val = t.val / 16) (d : Fin 1024) (e : Fin 6144) (he : e.val = d.val) :
    iblk m c 2 t (ix3 (0 : Fin 1) (0 : Fin 1) d) = m ((c : Thread nD τ).loc main_arg2) (ix2 b e) := by
  have hd := idx t
  blk_simp [iblk, idx t]
  entry_read
  pointwise
  blk_ext [idx t]

/-- The scale. -/
theorem scale (b : Fin 2) (hb : b.val = t.val / 16) (d : Fin 1024) (e : Fin 6144) (he : e.val = 1024 + d.val) :
    iblk m c 3 t (ix3 (0 : Fin 1) (0 : Fin 1) d) = m ((c : Thread nD τ).loc main_arg2) (ix2 b e) := by
  have hd := idx t
  blk_simp [iblk, idx t]
  entry_read
  pointwise
  blk_ext [idx t]

/-- The projection's weights. -/
theorem projW (d : Fin 1024) (k : Fin 5120) :
    iblk m c 4 t (ix2 d k) = m ((c : Thread nD τ).loc main_arg3) (ix2 d k) := by
  have hd := idx t
  blk_simp [iblk, idx t]
  entry_read
  pointwise
  blk_ext [idx t]

/-- The step sizes' weights. -/
theorem stepW (d : Fin 1024) (k : Fin 128) :
    iblk m c 5 t (ix2 d k) = m ((c : Thread nD τ).loc main_arg4) (ix2 d k) := by
  have hd := idx t
  blk_simp [iblk, idx t]
  entry_read
  pointwise
  blk_ext [idx t]

/-- The convolution's weights. -/
theorem convW (s : Fin 4) (k : Fin 3072) :
    iblk m c 6 t (ix2 s k) = m ((c : Thread nD τ).loc main_arg5) (ix2 s k) := by
  have hd := idx t
  blk_simp [iblk, idx t]
  entry_read
  pointwise
  blk_ext [idx t]

/-- The convolution's bias. -/
theorem convB (k : Fin 3072) :
    iblk m c 7 t (ix2 (0 : Fin 1) k) = m ((c : Thread nD τ).loc main_arg6) (ix1 k) := by
  have hd := idx t
  blk_simp [iblk, idx t]
  entry_read
  pointwise
  blk_ext [idx t]

/-- The step sizes' bias. -/
theorem stepB (k : Fin 128) :
    iblk m c 8 t (ix2 (0 : Fin 1) k) = m ((c : Thread nD τ).loc main_arg7) (ix1 k) := by
  have hd := idx t
  blk_simp [iblk, idx t]
  entry_read
  pointwise
  blk_ext [idx t]

/-- The decays' logarithms. -/
theorem decay (k : Fin 128) :
    iblk m c 9 t (ix2 (0 : Fin 1) k) = m ((c : Thread nD τ).loc main_arg8) (ix1 k) := by
  have hd := idx t
  blk_simp [iblk, idx t]
  entry_read
  pointwise
  blk_ext [idx t]

/-! A chunk's columns of them: the chunk begins at column `a`. -/

variable (a : ℕ) (k : Fin 256)

theorem projW_ld (K : Fin 5120) (hK : K.val = a + k.val) (i) (d : Fin 1024) :
    View.ld (iblk m c 4 t) (Rect.unit (s := S1024x5120) ![0, a] ![1024, 256] i) (ix2 d k) = m ((c : Thread nD τ).loc main_arg3) (ix2 d K) := by
  refine Eq.trans (View.ld_unit_apply_of _ _ _ _ _ (ix2 d K) ?_) (projW m c t d K)
  intro j
  fin_cases j <;> simp [ix2, hK]

variable (K : Fin 3072) (hK : K.val = a + k.val)

include hK

theorem convW_ld (s : ℕ) (S : Fin 4) (hS : S.val = s) (i) :
    View.ld (iblk m c 6 t) (Rect.unit (s := S4x3072) ![s, a] ![1, 256] i) (ix2 (0 : Fin 1) k) = m ((c : Thread nD τ).loc main_arg5) (ix2 S K) := by
  refine Eq.trans (View.ld_unit_apply_of _ _ _ _ _ (ix2 S K) ?_) (convW m c t S K)
  intro j
  fin_cases j <;> simp [ix2, hK, hS]

theorem convB_ld (i) :
    View.ld (iblk m c 7 t) (Rect.unit (s := S1x3072) ![0, a] ![1, 256] i) (ix2 (0 : Fin 1) k) = m ((c : Thread nD τ).loc main_arg6) (ix1 K) := by
  refine Eq.trans (View.ld_unit_apply_of _ _ _ _ _ (ix2 (0 : Fin 1) K) ?_) (convB m c t K)
  intro j
  fin_cases j <;> simp [ix2, hK]

theorem carry_ld (C : Vec Ideal S8x3072 .f32) (r : Fin 8) (i) :
    View.ld C (Rect.unit (s := S8x3072) ![0, a] ![8, 256] i) (ix2 r k) = C (ix2 r K) := by
  refine View.ld_unit_apply_of _ _ _ _ _ (ix2 r K) ?_
  intro j
  fin_cases j <;> simp [ix2, hK]

end Cert.Kernel3Ideal.Blocks

end
-- ==== Proof.ProjTile.lean ====
/- A chunk of columns, and a chunk of step sizes and decays, over one tile of rows, from the blocks the body loads and
   the rows carried from the tile before. -/
module

public import proofs.«01_k».proof.Proof.ProjRows
public import proofs.«01_k».proof.Proof.ProjBlocks

@[expose] public section

set_option maxRecDepth 16384

noncomputable section

namespace Cert.Kernel3Ideal.Tile

open Cert.Kernel3Ideal Cert.Kernel3Ideal.Gen Idealize.ShloMosaic Idealize.ShloMosaic.TcCoe Idealize.SL.Sem
open Cert.Kernel3Ideal.Blocks

variable (m : (ℓ : Loc nD τ sig) → Buf (Elt Ideal) ℓ) (c : Dev nD) (t : Fin cfg0.N)
  (b : Fin 2) (hb : b.val = t.val / 16) (row : Fin 512 → Fin 8192) (hrow : ∀ v, (row v).val = t.val % 16 * 512 + v.val)

/-- The normed rows of the tile. -/
def Normed (X : FVec Ideal S512x1024 .bf16) : Prop := ∀ v d, X (ix2 v d) = Cert.ProjSpec.normed (args m c) b (row v) d

/-- What the carried rows hold: the projected columns' rows above the tile, zero above the first. -/
def Carried (C : Vec Ideal S8x3072 .f32) : Prop :=
  ∀ s, s ≤ 3 → ∀ v : Fin 512, v.val < s → ∀ k : Fin 3072,
    C (ix2 (⟨(8 - s + v.val) % 8, Nat.mod_lt _ (by decide)⟩ : Fin 8) k) = Cert.ProjSpec.past (args m c) s b (row v) k

include hb hrow in
theorem normed_tile : Normed m c b row (k0_pay2 (iblk m c 0 t) (iblk m c 1 t) (iblk m c 3 t) (iblk m c 2 t)) := by
  intro v d
  rw [Cert.ProjRows.norm_apply]
  simp only [rows m c t b hb (row v) v (hrow v), weight m c t, scale m c t b hb d ⟨1024 + d.val, by omega⟩ rfl,
    shift m c t b hb d ⟨d.val, by omega⟩ rfl]
  rfl

section

variable (X : FVec Ideal S512x1024 .bf16) (hX : Normed m c b row X) (C : Vec Ideal S8x3072 .f32) (hC : Carried m c b row C)

include hX in
theorem proj_tile (a : ℕ) (i) (v : Fin 512) (k : Fin 256) (K : Fin 5120) (hK : K.val = a + k.val) :
    Cert.ProjRows.proj X (View.ld (iblk m c 4 t) (Rect.unit (s := S1024x5120) ![0, a] ![1024, 256] i)) (ix2 v k)
      = Cert.ProjSpec.proj (args m c) b (row v) K := by
  rw [Cert.ProjRows.proj_apply]
  refine Finset.sum_congr rfl fun d _ => ?_
  rw [hX v d, projW_ld m c t a k K hK i d]
  rfl

include hX in
theorem inner_tile (a : ℕ) (i) (v : Fin 512) (k : Fin 256) (K : Fin 3072) (hK : 2048 + K.val = a + k.val) :
    Cert.ProjRows.proj X (View.ld (iblk m c 4 t) (Rect.unit (s := S1024x5120) ![0, a] ![1024, 256] i)) (ix2 v k)
      = Cert.ProjSpec.inner (args m c) b (row v) K :=
  proj_tile m c t b row X hX a i v k _ hK

include hX hC hrow in
theorem above_tile (s : ℕ) (hs : s ≤ 3) (a a' : ℕ) (ha : a = 2048 + a') (i i') (v : Fin 512) (k : Fin 256) (K : Fin 3072) (hK : K.val = a' + k.val) :
    Cert.ProjRows.above s (Cert.ProjRows.proj X (View.ld (iblk m c 4 t) (Rect.unit (s := S1024x5120) ![0, a] ![1024, 256] i)))
        (View.ld C (Rect.unit (s := S8x3072) ![0, a'] ![8, 256] i')) v k
      = Cert.ProjSpec.past (args m c) s b (row v) K := by
  unfold Cert.ProjRows.above
  by_cases h : v.val < s
  · rw [if_pos h, carry_ld a' k K hK C _ i']
    exact hC s hs v h K
  · have hv := hrow v
    rw [if_neg h, inner_tile m c t b row X hX a i _ k K (by omega)]
    unfold Cert.ProjSpec.past
    rw [if_neg (by omega)]
    congr 1
    apply Fin.ext
    rw [hrow]
    show t.val % 16 * 512 + (v.val - s) = (row v).val - s
    omega

include hX hC hrow in
theorem conv_tile (a a' : ℕ) (ha : a = 2048 + a') (i4 ic i0 i1 i2 i3 ib) (v : Fin 512) (k : Fin 256) (K : Fin 3072) (hK : K.val = a' + k.val) :
    Cert.ProjRows.conv (Cert.ProjRows.proj X (View.ld (iblk m c 4 t) (Rect.unit (s := S1024x5120) ![0, a] ![1024, 256] i4)))
        (View.ld C (Rect.unit (s := S8x3072) ![0, a'] ![8, 256] ic))
        (View.ld (iblk m c 6 t) (Rect.unit (s := S4x3072) ![0, a'] ![1, 256] i0))
        (View.ld (iblk m c 6 t) (Rect.unit (s := S4x3072) ![1, a'] ![1, 256] i1))
        (View.ld (iblk m c 6 t) (Rect.unit (s := S4x3072) ![2, a'] ![1, 256] i2))
        (View.ld (iblk m c 6 t) (Rect.unit (s := S4x3072) ![3, a'] ![1, 256] i3))
        (View.ld (iblk m c 7 t) (Rect.unit (s := S1x3072) ![0, a'] ![1, 256] ib)) (ix2 v k)
      = Cert.ProjSpec.conv (args m c) b (row v) K := by
  rw [Cert.ProjRows.conv_apply, inner_tile m c t b row X hX a i4 v k K (by omega),
    above_tile m c t b row hrow X hX C hC 1 (by decide) a a' ha i4 ic v k K hK, above_tile m c t b row hrow X hX C hC 2 (by decide) a a' ha i4 ic v k K hK,
    above_tile m c t b row hrow X hX C hC 3 (by decide) a a' ha i4 ic v k K hK,
    convW_ld m c t a' k K hK 0 0 rfl i0, convW_ld m c t a' k K hK 1 1 rfl i1, convW_ld m c t a' k K hK 2 2 rfl i2, convW_ld m c t a' k K hK 3 3 rfl i3,
    convB_ld m c t a' k K hK ib]
  rfl

include hX hC hrow in
/-- A chunk of convolved columns: its weights begin at column `a` of the projection's and at `a'` of the convolution's. -/
theorem chunk_tile (a a' : ℕ) (ha : a = 2048 + a') (i4 ic i0 i1 i2 i3 ib) (x : S512x256.Idx) (v : Fin 512) (hv : v.val = (x 0).val)
    (k : Fin 5120) (hk : k.val = a + (x 1).val) :
    Cert.ProjRows.chunk X
        (View.ld (iblk m c 4 t) (Rect.unit (s := S1024x5120) ![0, a] ![1024, 256] i4))
        (View.ld C (Rect.unit (s := S8x3072) ![0, a'] ![8, 256] ic))
        (View.ld (iblk m c 6 t) (Rect.unit (s := S4x3072) ![0, a'] ![1, 256] i0))
        (View.ld (iblk m c 6 t) (Rect.unit (s := S4x3072) ![1, a'] ![1, 256] i1))
        (View.ld (iblk m c 6 t) (Rect.unit (s := S4x3072) ![2, a'] ![1, 256] i2))
        (View.ld (iblk m c 6 t) (Rect.unit (s := S4x3072) ![3, a'] ![1, 256] i3))
        (View.ld (iblk m c 7 t) (Rect.unit (s := S1x3072) ![0, a'] ![1, 256] ib)) x
      = Cert.ProjSpec.columns (args m c) b (row v) k := by
  obtain ⟨w, u, rfl⟩ : ∃ (w : Fin 512) (u : Fin 256), x = ix2 w u := ⟨x 0, x 1, by blk_ext []⟩
  obtain rfl : v = w := Fin.ext hv
  have hk' : k.val = a + u.val := hk
  unfold Cert.ProjSpec.columns
  rw [dif_neg (by omega), Cert.ProjRows.chunk_apply,
    conv_tile m c t b row hrow X hX C hC a a' ha i4 ic i0 i1 i2 i3 ib v u ⟨k.val - 2048, by omega⟩ (by show k.val - 2048 = a' + u.val; omega)]
  rfl

include hX in
/-- A chunk of the columns that are left as projected. -/
theorem plain_tile (a : ℕ) (ha : a + 256 ≤ 2048) (i) (x : S512x256.Idx) (v : Fin 512) (hv : v.val = (x 0).val) (k : Fin 5120) (hk : k.val = a + (x 1).val) :
    Cert.ProjRows.proj X (View.ld (iblk m c 4 t) (Rect.unit (s := S1024x5120) ![0, a] ![1024, 256] i)) x
      = Cert.ProjSpec.columns (args m c) b (row v) k := by
  obtain ⟨w, u, rfl⟩ : ∃ (w : Fin 512) (u : Fin 256), x = ix2 w u := ⟨x 0, x 1, by blk_ext []⟩
  obtain rfl : v = w := Fin.ext hv
  have hk' : k.val = a + u.val := hk
  unfold Cert.ProjSpec.columns
  rw [dif_pos (by omega)]
  exact proj_tile m c t b row X hX a i v u k hk'

include hX in
/-- A chunk of step sizes, at an element. -/
theorem steps_at (o : ℕ) (ho : S512x128.Slices ![o, 0] S128x128) (w k : Fin 128) (v : Fin 512) (hv : v.val = o + w.val) :
    Cert.ProjRows.steps X (iblk m c 5 t) (iblk m c 8 t) ![o, 0] ho (ix2 w k) = Cert.ProjSpec.dt (args m c) b (row v) k := by
  rw [Cert.ProjRows.steps_apply _ _ _ o ho w k v hv, stepB m c t]
  unfold Cert.ProjSpec.dt
  refine congrArg (fun z => Cert.ProjSpec.softplus (z + _)) (Finset.sum_congr rfl fun d _ => ?_)
  rw [hX v d, stepW m c t]
  rfl

include hX in
/-- A chunk of step sizes. -/
theorem steps_tile (o : ℕ) (ho : S512x128.Slices ![o, 0] S128x128) (x : S128x128.Idx) (v : Fin 512) (hv : v.val = o + (x 0).val)
    (k : Fin 128) (hk : k.val = (x 1).val) :
    Cert.ProjRows.steps X (iblk m c 5 t) (iblk m c 8 t) ![o, 0] ho x = Cert.ProjSpec.dt (args m c) b (row v) k := by
  obtain ⟨w, u, rfl⟩ : ∃ (w : Fin 128) (u : Fin 128), x = ix2 w u := ⟨x 0, x 1, by blk_ext []⟩
  obtain rfl : k = u := Fin.ext hk
  exact steps_at m c t b row X hX o ho w k v hv

include hX hrow in
/-- The summed exponents of a chunk, at an element. -/
theorem summed_at (o : ℕ) (ho : S512x128.Slices ![o, 0] S128x128) (h : o % 128 = 0) (w k : Fin 128) (v : Fin 512) (hv : v.val = o + w.val) :
    Cert.ProjRows.summed (Cert.ProjRows.steps X (iblk m c 5 t) (iblk m c 8 t) ![o, 0] ho) (iblk m c 9 t) (ix2 w k)
      = Cert.ProjSpec.acum (args m c) b (row v) k := by
  have hr := hrow v
  rw [Cert.ProjRows.summed_apply, decay m c t]
  unfold Cert.ProjSpec.acum
  refine congrArg (fun z : EReal => z * _) (Finset.sum_congr rfl fun s _ => ?_)
  refine if_congr (by omega) ?_ rfl
  refine congrArg₂ (fun y z : EReal => y * z) ?_ rfl
  rw [steps_at m c t b row X hX o ho s k ⟨o + s.val, by omega⟩ rfl]
  congr 1
  apply Fin.ext
  rw [hrow]
  show t.val % 16 * 512 + (o + s.val) = (row v).val / 128 * 128 + s.val
  omega

include hX hrow in
/-- The summed exponents of a chunk. -/
theorem summed_tile (o : ℕ) (ho : S512x128.Slices ![o, 0] S128x128) (h : o % 128 = 0) (x : S128x128.Idx) (v : Fin 512) (hv : v.val = o + (x 0).val)
    (k : Fin 128) (hk : k.val = (x 1).val) :
    Cert.ProjRows.summed (Cert.ProjRows.steps X (iblk m c 5 t) (iblk m c 8 t) ![o, 0] ho) (iblk m c 9 t) x
      = Cert.ProjSpec.acum (args m c) b (row v) k := by
  obtain ⟨w, u, rfl⟩ : ∃ (w : Fin 128) (u : Fin 128), x = ix2 w u := ⟨x 0, x 1, by blk_ext []⟩
  obtain rfl : k = u := Fin.ext hk
  exact summed_at m c t b row hrow X hX o ho h w k v hv

include hX hrow in
/-- The summed exponents of a chunk, turned over. -/
theorem turned_tile (o : ℕ) (ho : S512x128.Slices ![o, 0] S128x128) (h : o % 128 = 0) (x : S1x128x128.Idx) (v : Fin 512) (hv : v.val = o + (x 2).val)
    (k : Fin 128) (hk : k.val = (x 1).val) :
    Cert.ProjRows.turned (Cert.ProjRows.steps X (iblk m c 5 t) (iblk m c 8 t) ![o, 0] ho) (iblk m c 9 t) x
      = Cert.ProjSpec.acum (args m c) b (row v) k := by
  obtain ⟨z, u, w, rfl⟩ : ∃ (z : Fin 1) (u : Fin 128) (w : Fin 128), x = ix3 z u w := ⟨x 0, x 1, x 2, by blk_ext []⟩
  obtain rfl : z = 0 := Subsingleton.elim _ _
  obtain rfl : k = u := Fin.ext hk
  rw [Cert.ProjRows.turned_apply]
  exact summed_at m c t b row hrow X hX o ho h w k v hv

end

end Cert.Kernel3Ideal.Tile

end
-- ==== Proof.ProjPoint.lean ====
/- What a grid point of the input projection leaves besides its columns: the last rows before the convolution, the same
   rows carried to the next tile, the step sizes and the summed decay exponents. -/
module

public import proofs.«01_k».proof.Proof.ProjTile
public import proofs.«01_k».proof.Proof.FfnPoint
import Idealize.ShloMosaic.Lib.Claim

@[expose] public section

set_option maxRecDepth 16384

noncomputable section

namespace Cert.Kernel3Ideal.Point

open Cert.Kernel3Ideal Cert.Kernel3Ideal.Gen Idealize.ShloMosaic Idealize.ShloMosaic.TcCoe Idealize.SL.Sem
open Cert.Kernel3Ideal.Blocks Cert.Kernel3Ideal.Tile Cert.ProjJoin

/-- The last eight rows of a tile's columns. -/
def last (u : FVec Ideal S512x256 .f32) : FVec Ideal S8x256 .f32 :=
  extractStridedSlice S8x256 ![504, 0] u slices_S512x256_o504_0_S8x256

/-- As they are carried. -/
def kept (u : FVec Ideal S512x256 .f32) : FVec Ideal S8x256 .f32 := shapeCast S8x256 (last u) shapeCasts_S8x256_S8x256

/-- As they are a result. -/
def tail (u : FVec Ideal S512x256 .f32) : FVec Ideal S1x8x256 .f32 := shapeCast S1x8x256 (last u) shapeCasts_S8x256_S1x8x256

theorem kept_apply (u : FVec Ideal S512x256 .f32) (r : Fin 8) (k : Fin 256) (v : Fin 512) (hv : v.val = 504 + r.val) : kept u (ix2 r k) = u (ix2 v k) := by
  have hlt : 504 + r.val < 512 := by omega
  obtain rfl : v = ⟨504 + r.val, hlt⟩ := Fin.ext hv
  pointwise [kept, last]

theorem tail_apply (u : FVec Ideal S512x256 .f32) (r : Fin 8) (k : Fin 256) (v : Fin 512) (hv : v.val = 504 + r.val) :
    tail u (ix3 (0 : Fin 1) r k) = u (ix2 v k) := by
  have hlt : 504 + r.val < 512 := by omega
  obtain rfl : v = ⟨504 + r.val, hlt⟩ := Fin.ext hv
  pointwise [tail, last]

variable (m : (ℓ : Loc nD τ sig) → Buf (Elt Ideal) ℓ) (c : Dev nD) (t : Fin cfg0.N)
  (b : Fin 2) (row : Fin 512 → Fin 8192)

section

variable (X : FVec Ideal S512x1024 .bf16) (hX : Normed m c b row X)

include hX in
theorem kept_tile (a : ℕ) (i) (x : S8x256.Idx) (r : Fin 8) (hr : r.val = (x 0).val) (v : Fin 512) (hv : v.val = 504 + r.val) (K : Fin 3072) (hK : 2048 + K.val = a + (x 1).val) :
    kept (Cert.ProjRows.proj X (View.ld (iblk m c 4 t) (Rect.unit (s := S1024x5120) ![0, a] ![1024, 256] i))) x
      = Cert.ProjSpec.inner (args m c) b (row v) K := by
  obtain ⟨w, u, rfl⟩ : ∃ (w : Fin 8) (u : Fin 256), x = ix2 w u := ⟨x 0, x 1, by blk_ext []⟩
  obtain rfl : r = w := Fin.ext hr
  rw [kept_apply _ _ _ v hv]
  exact inner_tile m c t b row X hX a i v u K hK

include hX in
theorem tail_tile (a : ℕ) (i) (x : S1x8x256.Idx) (r : Fin 8) (hr : r.val = (x 1).val) (v : Fin 512) (hv : v.val = 504 + r.val) (K : Fin 3072) (hK : 2048 + K.val = a + (x 2).val) :
    tail (Cert.ProjRows.proj X (View.ld (iblk m c 4 t) (Rect.unit (s := S1024x5120) ![0, a] ![1024, 256] i))) x
      = Cert.ProjSpec.inner (args m c) b (row v) K := by
  obtain ⟨z, w, u, rfl⟩ : ∃ (z : Fin 1) (w : Fin 8) (u : Fin 256), x = ix3 z w u := ⟨x 0, x 1, x 2, by blk_ext []⟩
  obtain rfl : z = 0 := Subsingleton.elim _ _
  obtain rfl : r = w := Fin.ext hr
  rw [tail_apply _ _ _ v hv]
  exact inner_tile m c t b row X hX a i v u K hK

end

variable (hb : b.val = t.val / 16) (hrow : ∀ v, (row v).val = t.val % 16 * 512 + v.val)

include hb hrow

set_option maxHeartbeats 2000000 in
/-- The rows a point carries to the next. -/
theorem carry (y : S8x3072.Idx) (v : Fin 512) (hv : v.val = 504 + (y 0).val) (K : Fin 3072) (hK : K.val = (y 1).val) :
    (outsAt0 m c t.val t.isLt).2.2.2.2.2 y = Cert.ProjSpec.inner (args m c) b (row v) K := by
  have hX := normed_tile m c t b hb row hrow
  by_cases h : t.val % 16 = 0
  · rw [outsAt0_A m c t h]
    frame_out
    generalize k0_pay2 (iblk m c 0 t) (iblk m c 1 t) (iblk m c 3 t) (iblk m c 2 t) = X at hX ⊢
    refine Eq.trans (Cert.Kernel2Ideal.Point.canon_dropLast _ y ?_) ?_
    · simp only [List.dropLast, List.mem_cons, exists_eq_or_imp, List.not_mem_nil, false_and, exists_false, or_false, Rect.mem_set_unit, Fin.forall_fin_two]
      have h0 : (y 0).val < 8 := (y 0).isLt
      have h1 : (y 1).val < 3072 := (y 1).isLt
      simp
      rw [Rect.mem_set_unit, Fin.forall_fin_two]
      simp
      omega
    simp only [List.dropLast]
    canon_tiles x hx
    all_goals
      refine Eq.trans (congrFun (g := kept (Cert.ProjRows.proj X ?_)) ?_ x) ?_
      on_goal 2 =>
        open_payloads
        with_reducible unfold kept
        delta last Cert.ProjRows.proj
        with_reducible exact rfl
      exact kept_tile m c t b row X hX _ _ x (y 0) (by omega) v hv K (by omega)
  · rw [outsAt0_B m c t h]
    frame_out
    generalize k0_pay2 (iblk m c 0 t) (iblk m c 1 t) (iblk m c 3 t) (iblk m c 2 t) = X at hX ⊢
    canon_tiles x hx
    all_goals
      refine Eq.trans (congrFun (g := kept (Cert.ProjRows.proj X ?_)) ?_ x) ?_
      on_goal 2 =>
        open_payloads
        with_reducible unfold kept
        delta last Cert.ProjRows.proj
        with_reducible exact rfl
      exact kept_tile m c t b row X hX _ _ x (y 0) (by omega) v hv K (by omega)

set_option maxHeartbeats 2000000 in
/-- The rows a point leaves as a result. -/
theorem tails (y : S1x8x3072.Idx) (v : Fin 512) (hv : v.val = 504 + (y 1).val) (K : Fin 3072) (hK : K.val = (y 2).val) :
    (outsAt0 m c t.val t.isLt).2.2.1 y = Cert.ProjSpec.inner (args m c) b (row v) K := by
  have hX := normed_tile m c t b hb row hrow
  by_cases h : t.val % 16 = 0
  · rw [outsAt0_A m c t h]
    frame_out
    generalize k0_pay2 (iblk m c 0 t) (iblk m c 1 t) (iblk m c 3 t) (iblk m c 2 t) = X at hX ⊢
    canon_tiles x hx
    all_goals
      refine Eq.trans (congrFun (g := tail (Cert.ProjRows.proj X ?_)) ?_ x) ?_
      on_goal 2 =>
        open_payloads
        with_reducible unfold tail
        delta last Cert.ProjRows.proj
        with_reducible exact rfl
      exact tail_tile m c t b row X hX _ _ x (y 1) (by omega) v hv K (by omega)
  · rw [outsAt0_B m c t h]
    frame_out
    generalize k0_pay2 (iblk m c 0 t) (iblk m c 1 t) (iblk m c 3 t) (iblk m c 2 t) = X at hX ⊢
    canon_tiles x hx
    all_goals
      refine Eq.trans (congrFun (g := tail (Cert.ProjRows.proj X ?_)) ?_ x) ?_
      on_goal 2 =>
        open_payloads
        with_reducible unfold tail
        delta last Cert.ProjRows.proj
        with_reducible exact rfl
      exact tail_tile m c t b row X hX _ _ x (y 1) (by omega) v hv K (by omega)

end Cert.Kernel3Ideal.Point

end
-- ==== Proof.ProjDecay.lean ====
/- What a grid point of the input projection leaves of the step sizes and of the summed decay exponents. -/
module

public import proofs.«01_k».proof.Proof.ProjTile
import Idealize.ShloMosaic.Lib.Claim

@[expose] public section

set_option maxRecDepth 16384

noncomputable section

namespace Cert.Kernel3Ideal.Decay

open Cert.Kernel3Ideal Cert.Kernel3Ideal.Gen Idealize.ShloMosaic Idealize.ShloMosaic.TcCoe Idealize.SL.Sem
open Cert.Kernel3Ideal.Blocks Cert.Kernel3Ideal.Tile

variable (m : (ℓ : Loc nD τ sig) → Buf (Elt Ideal) ℓ) (c : Dev nD) (t : Fin cfg0.N)
  (b : Fin 2) (row : Fin 512 → Fin 8192)
variable (hb : b.val = t.val / 16) (hrow : ∀ v, (row v).val = t.val % 16 * 512 + v.val)

include hb hrow

set_option maxHeartbeats 2000000 in
/-- The step sizes of a tile. -/
theorem step_sizes (y : S512x128.Idx) (v : Fin 512) (hv : v.val = (y 0).val) (K : Fin 128) (hK : K.val = (y 1).val) :
    (outsAt0 m c t.val t.isLt).2.1 y = Cert.ProjSpec.dt (args m c) b (row v) K := by
  have hX := normed_tile m c t b hb row hrow
  by_cases h : t.val % 16 = 0
  on_goal 1 => rw [outsAt0_A m c t h]
  on_goal 2 => rw [outsAt0_B m c t h]
  all_goals
    frame_out
    canon_tiles x hx
  all_goals
    refine Eq.trans (congrFun (g := Cert.ProjRows.steps (k0_pay2 (iblk m c 0 t) (iblk m c 1 t) (iblk m c 3 t) (iblk m c 2 t)) (iblk m c 5 t) (iblk m c 8 t)
      ![?_, 0] ?_) ?_ x) ?_
    on_goal 3 =>
      open_payloads
      with_reducible unfold Cert.ProjRows.steps
      delta Cert.ProjRows.soft Cert.ProjRows.raw Cert.ProjRows.across
      with_reducible exact rfl
    exact steps_tile m c t b row _ hX _ _ x v (by omega) K (by omega)

set_option maxHeartbeats 2000000 in
/-- The summed exponents of a tile. -/
theorem exponents (y : S512x128.Idx) (v : Fin 512) (hv : v.val = (y 0).val) (K : Fin 128) (hK : K.val = (y 1).val) :
    (outsAt0 m c t.val t.isLt).2.2.2.1 y = Cert.ProjSpec.acum (args m c) b (row v) K := by
  have hX := normed_tile m c t b hb row hrow
  by_cases h : t.val % 16 = 0
  on_goal 1 => rw [outsAt0_A m c t h]
  on_goal 2 => rw [outsAt0_B m c t h]
  all_goals
    frame_out
    canon_tiles x hx
  all_goals
    refine Eq.trans (congrFun (g := Cert.ProjRows.summed (Cert.ProjRows.steps (k0_pay2 (iblk m c 0 t) (iblk m c 1 t) (iblk m c 3 t) (iblk m c 2 t)) (iblk m c 5 t)
      (iblk m c 8 t) ![?_, 0] ?_) (iblk m c 9 t)) ?_ x) ?_
    on_goal 3 =>
      open_payloads
      with_reducible unfold Cert.ProjRows.summed
      delta Cert.ProjRows.steps Cert.ProjRows.soft Cert.ProjRows.raw Cert.ProjRows.across
      with_reducible exact rfl
    exact summed_tile m c t b row hrow _ hX _ _ (by decide) x v (by omega) K (by omega)

set_option maxHeartbeats 2000000 in
/-- They, each chunk of 128 rows turned over. -/
theorem exponents_turned (y : S4x128x128.Idx) (v : Fin 512) (hv : v.val = (y 0).val * 128 + (y 2).val) (K : Fin 128) (hK : K.val = (y 1).val) :
    (outsAt0 m c t.val t.isLt).2.2.2.2.1 y = Cert.ProjSpec.acum (args m c) b (row v) K := by
  have hX := normed_tile m c t b hb row hrow
  by_cases h : t.val % 16 = 0
  on_goal 1 => rw [outsAt0_A m c t h]
  on_goal 2 => rw [outsAt0_B m c t h]
  all_goals
    frame_out
    canon_tiles x hx
  all_goals
    have hx2 : (x 0).val < 1 := (x 0).isLt
    refine Eq.trans (congrFun (g := Cert.ProjRows.turned (Cert.ProjRows.steps (k0_pay2 (iblk m c 0 t) (iblk m c 1 t) (iblk m c 3 t) (iblk m c 2 t)) (iblk m c 5 t)
      (iblk m c 8 t) ![?_, 0] ?_) (iblk m c 9 t)) ?_ x) ?_
    on_goal 3 =>
      open_payloads
      with_reducible unfold Cert.ProjRows.turned
      delta Cert.ProjRows.summed Cert.ProjRows.steps Cert.ProjRows.soft Cert.ProjRows.raw Cert.ProjRows.across
      with_reducible exact rfl
    exact turned_tile m c t b row hrow _ hX _ _ (by decide) x v (by omega) K (by omega)

end Cert.Kernel3Ideal.Decay

end
-- ==== Proof.ProjOut.lean ====
/- What a grid point of the input projection leaves of its columns, and the five results after the run. -/
module

public import proofs.«01_k».proof.Proof.ProjPoint
public import proofs.«01_k».proof.Proof.ProjDecay
import Idealize.ShloMosaic.Lib.Claim

@[expose] public section

set_option maxRecDepth 16384

noncomputable section

namespace Cert.Kernel3Ideal.Point

open Cert.Kernel3Ideal Cert.Kernel3Ideal.Gen Idealize.ShloMosaic Idealize.ShloMosaic.TcCoe Idealize.SL.Sem
open Cert.Kernel3Ideal.Blocks Cert.Kernel3Ideal.Tile Cert.Kernel3Ideal.Decay Cert.ProjJoin

section Tiles

variable (m : (ℓ : Loc nD τ sig) → Buf (Elt Ideal) ℓ) (c : Dev nD) (t : Fin cfg0.N)
  (b : Fin 2) (row : Fin 512 → Fin 8192)

variable (hb : b.val = t.val / 16) (hrow : ∀ v, (row v).val = t.val % 16 * 512 + v.val)

include hrow in
theorem carried_zero (h : t.val % 16 = 0) : Carried m c b row (k0_pay28 (F := Ideal)) := by
  intro s hs v hv k
  have hz := hrow v
  unfold Cert.ProjSpec.past
  rw [if_pos (by omega)]
  pointwise [k0_pay28]

include hb hrow in
theorem carried_prev (h : ¬ t.val % 16 = 0) : Carried m c b row (outsAt0 m c (t.val - 1) (lt_of_le_of_lt (Nat.sub_le _ _) t.isLt)).2.2.2.2.2 := by
  intro s hs v hv k
  have hz := hrow v
  have ht := t.isLt
  have hN : t.val < 32 := ht
  have e := carry m c ⟨t.val - 1, lt_of_le_of_lt (Nat.sub_le _ _) t.isLt⟩ b (fun w => ⟨(t.val - 1) % 16 * 512 + w.val, by omega⟩)
    (by show b.val = (t.val - 1) / 16; omega) (fun w => rfl) (ix2 (⟨(8 - s + v.val) % 8, Nat.mod_lt _ (by decide)⟩ : Fin 8) k)
    ⟨504 + (8 - s + v.val) % 8, by omega⟩ rfl k rfl
  refine Eq.trans e ?_
  unfold Cert.ProjSpec.past
  rw [if_neg (by omega)]
  congr 1
  apply Fin.ext
  show (t.val - 1) % 16 * 512 + (504 + (8 - s + v.val) % 8) = (row v).val - s
  omega

include hb hrow in
set_option maxHeartbeats 2000000 in
/-- The columns of a sequence's first tile. -/
theorem tiles_A (h : t.val % 16 = 0) (y : S512x5120.Idx) (v : Fin 512) (hv : v.val = (y 0).val) (K : Fin 5120) (hK : K.val = (y 1).val) :
    (outsAt0 m c t.val t.isLt).1 y = Cert.ProjSpec.columns (args m c) b (row v) K := by
  have hX := normed_tile m c t b hb row hrow
  have hC := carried_zero m c t b row hrow h
  rw [outsAt0_A m c t h]
  frame_open
  simp (disch := decide) only [↓ View.readCov_skip, ↓ View.readCov_cons_toLoadRect, ↓ View.readCov_fill, ↓ joined_one, ↓ joined_two, ↓ joined_three]
  frame_out
  generalize k0_pay2 (iblk m c 0 t) (iblk m c 1 t) (iblk m c 3 t) (iblk m c 2 t) = X at hX ⊢
  generalize k0_pay28 (F := Ideal) = C at hC ⊢
  canon_tiles x hx
  all_goals
    have hx2 : (x 1).val < 256 := (x 1).isLt
    first
    | have hlt : K.val < 2048 := by omega
      refine Eq.trans (congrFun (g := Cert.ProjRows.proj X ?_) ?_ x) ?_
      on_goal 2 =>
        open_payloads
        with_reducible unfold Cert.ProjRows.proj
        with_reducible exact rfl
      exact plain_tile m c t b row X hX _ (by decide) _ x v (by omega) K (by omega)
    | have hlt : 2048 ≤ K.val := by omega
      refine Eq.trans (congrFun (g := Cert.ProjRows.chunk X ?_ ?_ ?_ ?_ ?_ ?_ ?_) ?_ x) ?_
      on_goal 8 =>
        open_payloads
        with_reducible unfold Cert.ProjRows.chunk
        delta Cert.ProjRows.conv Cert.ProjRows.fixed Cert.ProjRows.rolled Cert.ProjRows.over Cert.ProjRows.over8 Cert.ProjRows.first Cert.ProjRows.before Cert.ProjRows.proj
        with_reducible exact rfl
      exact chunk_tile m c t b row hrow X hX C hC _ _ (by decide) _ _ _ _ _ _ _ x v (by omega) K (by omega)

include hb hrow in
set_option maxHeartbeats 2000000 in
/-- The columns of a later tile. -/
theorem tiles_B (h : ¬ t.val % 16 = 0) (y : S512x5120.Idx) (v : Fin 512) (hv : v.val = (y 0).val) (K : Fin 5120) (hK : K.val = (y 1).val) :
    (outsAt0 m c t.val t.isLt).1 y = Cert.ProjSpec.columns (args m c) b (row v) K := by
  have hX := normed_tile m c t b hb row hrow
  have hC := carried_prev m c t b row hb hrow h
  rw [outsAt0_B m c t h]
  frame_open
  simp (disch := decide) only [↓ View.readCov_skip, ↓ View.readCov_cons_toLoadRect, ↓ View.readCov_fill, ↓ joined_one, ↓ joined_two, ↓ joined_three]
  frame_out
  simp only [read_unread_whole]
  generalize k0_pay2 (iblk m c 0 t) (iblk m c 1 t) (iblk m c 3 t) (iblk m c 2 t) = X at hX ⊢
  generalize (outsAt0 m c (t.val - 1) (lt_of_le_of_lt (Nat.sub_le _ _) t.isLt)).2.2.2.2.2 = C at hC ⊢
  canon_tiles x hx
  all_goals
    have hx2 : (x 1).val < 256 := (x 1).isLt
    first
    | have hlt : K.val < 2048 := by omega
      refine Eq.trans (congrFun (g := Cert.ProjRows.proj X ?_) ?_ x) ?_
      on_goal 2 =>
        open_payloads
        with_reducible unfold Cert.ProjRows.proj
        with_reducible exact rfl
      exact plain_tile m c t b row X hX _ (by decide) _ x v (by omega) K (by omega)
    | have hlt : 2048 ≤ K.val := by omega
      refine Eq.trans (congrFun (g := Cert.ProjRows.chunk X ?_ ?_ ?_ ?_ ?_ ?_ ?_) ?_ x) ?_
      on_goal 8 =>
        open_payloads
        with_reducible unfold Cert.ProjRows.chunk
        delta Cert.ProjRows.conv Cert.ProjRows.fixed Cert.ProjRows.rolled Cert.ProjRows.over Cert.ProjRows.over8 Cert.ProjRows.first Cert.ProjRows.before Cert.ProjRows.proj
        with_reducible exact rfl
      exact chunk_tile m c t b row hrow X hX C hC _ _ (by decide) _ _ _ _ _ _ _ x v (by omega) K (by omega)

include hb hrow in
/-- The columns of every tile. -/
theorem tiles (y : S512x5120.Idx) (v : Fin 512) (hv : v.val = (y 0).val) (K : Fin 5120) (hK : K.val = (y 1).val) :
    (outsAt0 m c t.val t.isLt).1 y = Cert.ProjSpec.columns (args m c) b (row v) K := by
  by_cases h : t.val % 16 = 0
  · exact tiles_A m c t b row hb hrow h y v hv K hK
  · exact tiles_B m c t b row hb hrow h y v hv K hK

end Tiles

variable (m : (ℓ : Loc nD τ sig) → Buf (Elt Ideal) ℓ) (c : Dev nD)

/-- The first result after the run: the columns, both sequences' rows in one list. -/
def value10 : Buf (Elt Ideal) ((c : Thread nD τ).loc main_v8_0) :=
  fun (j : S16384x5120.Idx) => Cert.ProjSpec.columns (args m c) ⟨(j 0).val / 8192, (by have : (j 0).val < 16384 := (j 0).isLt; omega)⟩ ⟨(j 0).val % 8192, by omega⟩ (j 1)

/-- The second: the step sizes. -/
def value11 : Buf (Elt Ideal) ((c : Thread nD τ).loc main_v8_1) :=
  fun (j : S16384x128.Idx) => Cert.ProjSpec.dt (args m c) ⟨(j 0).val / 8192, (by have : (j 0).val < 16384 := (j 0).isLt; omega)⟩ ⟨(j 0).val % 8192, by omega⟩ (j 1)

/-- The third: the last eight rows of every tile before the convolution. -/
def value12 : Buf (Elt Ideal) ((c : Thread nD τ).loc main_v8_2) :=
  fun (j : S32x8x3072.Idx) => Cert.ProjSpec.inner (args m c) ⟨(j 0).val / 16, (by have : (j 0).val < 32 := (j 0).isLt; omega)⟩
    ⟨(j 0).val % 16 * 512 + (504 + (j 1).val), (by have : (j 1).val < 8 := (j 1).isLt; omega)⟩ (j 2)

/-- The fourth: the summed decay exponents. -/
def value13 : Buf (Elt Ideal) ((c : Thread nD τ).loc main_v8_3) :=
  fun (j : S16384x128.Idx) => Cert.ProjSpec.acum (args m c) ⟨(j 0).val / 8192, (by have : (j 0).val < 16384 := (j 0).isLt; omega)⟩ ⟨(j 0).val % 8192, by omega⟩ (j 1)

/-- The fifth: they, each chunk of 128 rows turned over. -/
def value14 : Buf (Elt Ideal) ((c : Thread nD τ).loc main_v8_4) :=
  fun (j : S128x128x128.Idx) => Cert.ProjSpec.acum (args m c) ⟨(j 0).val / 64, (by have : (j 0).val < 128 := (j 0).isLt; omega)⟩
    ⟨(j 0).val % 64 * 128 + (j 2).val, (by have : (j 2).val < 128 := (j 2).isLt; omega)⟩ (j 1)

theorem value10_at (t : Fin cfg0.N) (y : S512x5120.Idx) (b : Fin 2) (hb : b.val = t.val / 16) (r : Fin 8192)
    (hr : r.val = t.val % 16 * 512 + ((y 0).val)) (K : Fin 5120) (hK : K.val = (y 1).val) :
    (outsAt0 m c t.val t.isLt).1 y = Cert.ProjSpec.columns (args m c) b r K := by
  have h0 : (y 0).val < 512 := (y 0).isLt
  rw [tiles m c t b (fun w => ⟨t.val % 16 * 512 + w.val, by omega⟩) hb (fun w => rfl) y ⟨(y 0).val, by omega⟩ rfl K hK]
  congr 1
  exact Fin.ext hr.symm

theorem final10 : (dats (F := Ideal) m 0 c).arrAt 10 (cfgs 0).N = value10 m c := by
  refine (dats m 0 c).arrAt_eq_of_covers 10 _ (by decide +kernel) fun t hf y => ?_
  have hi := idx t
  blk_simp
  rw [after0_10]
  unfold value10
  refine value10_at m c t y _ ?_ _ ?_ _ ?_ <;> blk_simp [idx t] <;> idx_bounds <;> (try dsimp only) <;> omega

theorem value11_at (t : Fin cfg0.N) (y : S512x128.Idx) (b : Fin 2) (hb : b.val = t.val / 16) (r : Fin 8192)
    (hr : r.val = t.val % 16 * 512 + ((y 0).val)) (K : Fin 128) (hK : K.val = (y 1).val) :
    (outsAt0 m c t.val t.isLt).2.1 y = Cert.ProjSpec.dt (args m c) b r K := by
  have h0 : (y 0).val < 512 := (y 0).isLt
  rw [step_sizes m c t b (fun w => ⟨t.val % 16 * 512 + w.val, by omega⟩) hb (fun w => rfl) y ⟨(y 0).val, by omega⟩ rfl K hK]
  congr 1
  exact Fin.ext hr.symm

theorem final11 : (dats (F := Ideal) m 0 c).arrAt 11 (cfgs 0).N = value11 m c := by
  refine (dats m 0 c).arrAt_eq_of_covers 11 _ (by decide +kernel) fun t hf y => ?_
  have hi := idx t
  blk_simp
  rw [after0_11]
  unfold value11
  refine value11_at m c t y _ ?_ _ ?_ _ ?_ <;> blk_simp [idx t] <;> idx_bounds <;> (try dsimp only) <;> omega

theorem value12_at (t : Fin cfg0.N) (y : S1x8x3072.Idx) (b : Fin 2) (hb : b.val = t.val / 16) (r : Fin 8192)
    (hr : r.val = t.val % 16 * 512 + (504 + (y 1).val)) (K : Fin 3072) (hK : K.val = (y 2).val) :
    (outsAt0 m c t.val t.isLt).2.2.1 y = Cert.ProjSpec.inner (args m c) b r K := by
  have h1 : (y 1).val < 8 := (y 1).isLt
  rw [tails m c t b (fun w => ⟨t.val % 16 * 512 + w.val, by omega⟩) hb (fun w => rfl) y ⟨504 + (y 1).val, by omega⟩ rfl K hK]
  congr 1
  exact Fin.ext hr.symm

theorem final12 : (dats (F := Ideal) m 0 c).arrAt 12 (cfgs 0).N = value12 m c := by
  refine (dats m 0 c).arrAt_eq_of_covers 12 _ (by decide +kernel) fun t hf y => ?_
  have hi := idx t
  blk_simp
  rw [after0_12]
  unfold value12
  refine value12_at m c t y _ ?_ _ ?_ _ ?_ <;> blk_simp [idx t] <;> idx_bounds <;> (try dsimp only) <;> omega

theorem value13_at (t : Fin cfg0.N) (y : S512x128.Idx) (b : Fin 2) (hb : b.val = t.val / 16) (r : Fin 8192)
    (hr : r.val = t.val % 16 * 512 + ((y 0).val)) (K : Fin 128) (hK : K.val = (y 1).val) :
    (outsAt0 m c t.val t.isLt).2.2.2.1 y = Cert.ProjSpec.acum (args m c) b r K := by
  have h0 : (y 0).val < 512 := (y 0).isLt
  rw [exponents m c t b (fun w => ⟨t.val % 16 * 512 + w.val, by omega⟩) hb (fun w => rfl) y ⟨(y 0).val, by omega⟩ rfl K hK]
  congr 1
  exact Fin.ext hr.symm

theorem final13 : (dats (F := Ideal) m 0 c).arrAt 13 (cfgs 0).N = value13 m c := by
  refine (dats m 0 c).arrAt_eq_of_covers 13 _ (by decide +kernel) fun t hf y => ?_
  have hi := idx t
  blk_simp
  rw [after0_13]
  unfold value13
  refine value13_at m c t y _ ?_ _ ?_ _ ?_ <;> blk_simp [idx t] <;> idx_bounds <;> (try dsimp only) <;> omega

theorem value14_at (t : Fin cfg0.N) (y : S4x128x128.Idx) (b : Fin 2) (hb : b.val = t.val / 16) (r : Fin 8192)
    (hr : r.val = t.val % 16 * 512 + ((y 0).val * 128 + (y 2).val)) (K : Fin 128) (hK : K.val = (y 1).val) :
    (outsAt0 m c t.val t.isLt).2.2.2.2.1 y = Cert.ProjSpec.acum (args m c) b r K := by
  have h0 : (y 0).val < 4 := (y 0).isLt
  have h2 : (y 2).val < 128 := (y 2).isLt
  rw [exponents_turned m c t b (fun w => ⟨t.val % 16 * 512 + w.val, by omega⟩) hb (fun w => rfl) y ⟨(y 0).val * 128 + (y 2).val, by omega⟩ rfl K hK]
  congr 1
  exact Fin.ext hr.symm

theorem final14 : (dats (F := Ideal) m 0 c).arrAt 14 (cfgs 0).N = value14 m c := by
  refine (dats m 0 c).arrAt_eq_of_covers 14 _ (by decide +kernel) fun t hf y => ?_
  have hi := idx t
  blk_simp
  rw [after0_14]
  unfold value14
  refine value14_at m c t y _ ?_ _ ?_ _ ?_ <;> blk_simp [idx t] <;> idx_bounds <;> (try dsimp only) <;> omega

end Cert.Kernel3Ideal.Point

end
-- ==== Proof.lean ====
/- The three calls' claims, put together: the frames, the passage from each call to its idealized form, and the equality
   of each idealized call with its reference, for the decode attention, the feed-forward block and the input
   projection. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.RefDec
public import proofs.«01_k».proof.Proof.Point
public import proofs.«01_k».proof.Proof.RefFfn
public import proofs.«01_k».proof.Proof.FfnOut
public import proofs.«01_k».proof.Proof.RefProj
public import proofs.«01_k».proof.Proof.ProjOut
import Idealize.ShloMosaic.Lib.Claim
import Idealize.ShloMosaic.Lib.Pointwise
import Idealize.ShloMosaic.Lib.Pipeline.ValueKit
import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The decode attention's reference runs to its end. -/
theorem frame_reference : Cert.quiescent_ReferenceIdeal := by
  intro m ρ _
  exact (θ_run _ _ _).mono (fun r h => ⟨fun c => (h c).2, sem_eq_zero_of_no_sems (by decide) r.2⟩) (Cert.ReferenceIdeal.Value.run m ρ)

/-- The decode attention's kernel and reference have the same result over the extended reals. -/
theorem decode : Cert.algebraic_KernelIdeal_ReferenceIdeal := by
  pair_intro
  · run_from Cert.KernelIdeal.Gen.run_main m g
  · run_from Cert.ReferenceIdeal.Value.run m' g'
    obtain ⟨h0, h1, h2, h3, h4⟩ := hagree c
    rw [Cert.ReferenceIdeal.Read.val_main_v121_eq, h0, h1, h2, h3, h4]
    refine Eq.trans (funext fun j => ?_) (Cert.KernelIdeal.Point.final m c).symm
    have hj : j = ix4 (j 0) (j 1) (j 2) (j 3) := by blk_ext []
    rw [hj]
    exact Cert.RefDec.result _ _ _ _ _ (j 0) (j 1) (j 2) (j 3)

/-- The feed-forward block's reference runs to its end. -/
theorem frame_reference2 : Cert.quiescent_Reference2Ideal := by
  intro m ρ _
  exact (θ_run _ _ _).mono (fun r h => ⟨fun c => (h c).2.2, sem_eq_zero_of_no_sems (by decide) r.2⟩) (Cert.Reference2Ideal.Value.run m ρ)

/-- The feed-forward block's kernel and reference have the same two results over the extended reals. -/
theorem feed_forward : Cert.algebraic_Kernel2Ideal_Reference2Ideal := by
  pair_intro
  · run_from Cert.Kernel2Ideal.Gen.run_main m g
  · refine θ_run_mono (Cert.Reference2Ideal.Value.run m' g') fun r hr c => ?_
    obtain ⟨h0, h1, h2, h3, h4, h5, h6⟩ := hagree c
    refine ⟨(hr c).1.trans ((Cert.Reference2Ideal.Read.val_main_v64_eq m' c).trans ?_),
      (hr c).2.1.trans ((Cert.Reference2Ideal.Read.val_main_v66_eq _ _ _ _).trans ?_), (hr c).2.2⟩
    · rw [h0, h1, h2, h3, h4, h5, h6]
      refine Eq.trans (funext fun j => ?_) (Cert.Kernel2Ideal.Point.final9 m c).symm
      have hj : j = ix2 (j 0) (j 1) := by blk_ext []
      rw [hj]
      exact Cert.RefFfn.result _ _ _ _ _ _ _ (j 0) _ rfl _ rfl (j 1)
    · rw [h0, h1, h2, h3]
      refine Eq.trans (funext fun j => ?_) (Cert.Kernel2Ideal.Point.final10 m c).symm
      have hj : j = ix3 (j 0) (j 1) (j 2) := by blk_ext []
      rw [hj]
      exact Cert.RefFfn.tail _ _ _ _ _ _ _ (j 0) _ rfl (j 1) _ rfl (j 2)

/-- The input projection's reference runs to its end. -/
theorem frame_reference3 : Cert.quiescent_Reference3Ideal := by
  intro m ρ _
  exact (θ_run _ _ _).mono (fun r h => ⟨fun c => (h c).2.2.2.2.2, sem_eq_zero_of_no_sems (by decide) r.2⟩) (Cert.Reference3Ideal.Value.run m ρ)

set_option maxHeartbeats 2000000 in
/-- The input projection's kernel and reference have the same five results over the extended reals. -/
theorem in_projection : Cert.algebraic_Kernel3Ideal_Reference3Ideal := by
  pair_intro
  · run_from Cert.Kernel3Ideal.Gen.run_main m g
  · refine θ_run_mono (Cert.Reference3Ideal.Value.run m' g') fun r hr c => ?_
    obtain ⟨h0, h1, h2, h3, h4, h5, h6, h7, h8⟩ := hagree c
    refine ⟨(hr c).1.trans ((Cert.Reference3Ideal.Read.val_main_v80_eq m' c).trans ?_),
      (hr c).2.1.trans ((Cert.Reference3Ideal.Read.val_main_v81_eq m' c).trans ?_),
      (hr c).2.2.1.trans ((Cert.Reference3Ideal.Read.val_main_v83_eq _ _ _ _).trans ?_),
      (hr c).2.2.2.1.trans ((Cert.Reference3Ideal.Read.val_main_v84_eq m' c).trans ?_),
      (hr c).2.2.2.2.1.trans ((Cert.Reference3Ideal.Read.val_main_v85_eq m' c).trans ?_), (hr c).2.2.2.2.2⟩
    · rw [h0, h1, h2, h3, h5, h6]
      refine Eq.trans (funext fun j => ?_) (Cert.Kernel3Ideal.Point.final10 m c).symm
      have hj : j = ix2 (j 0) (j 1) := by blk_ext []
      rw [hj]
      exact Cert.RefProj.columns_result _ _ _ _ _ _ _ _ _ (j 0) _ rfl _ rfl (j 1)
    · rw [h0, h1, h2, h4, h7]
      refine Eq.trans (funext fun j => ?_) (Cert.Kernel3Ideal.Point.final11 m c).symm
      have hj : j = ix2 (j 0) (j 1) := by blk_ext []
      rw [hj]
      exact Cert.RefProj.dt_result _ _ _ _ _ _ _ _ _ (j 0) _ rfl _ rfl (j 1)
    · rw [h0, h1, h2, h3]
      refine Eq.trans (funext fun j => ?_) (Cert.Kernel3Ideal.Point.final12 m c).symm
      have hj : j = ix3 (j 0) (j 1) (j 2) := by blk_ext []
      rw [hj]
      exact Cert.RefProj.tail_result _ _ _ _ _ _ _ _ _ (j 0) _ rfl (j 1) _ rfl (j 2)
    · rw [h0, h1, h2, h4, h7, h8]
      refine Eq.trans (funext fun j => ?_) (Cert.Kernel3Ideal.Point.final13 m c).symm
      have hj : j = ix2 (j 0) (j 1) := by blk_ext []
      rw [hj]
      exact Cert.RefProj.acum_result _ _ _ _ _ _ _ _ _ (j 0) _ rfl _ rfl (j 1)
    · rw [h0, h1, h2, h4, h7, h8]
      refine Eq.trans (funext fun j => ?_) (Cert.Kernel3Ideal.Point.final14 m c).symm
      have hj : j = ix3 (j 0) (j 1) (j 2) := by blk_ext []
      rw [hj]
      exact Cert.RefProj.turned_result _ _ _ _ _ _ _ _ _ (j 0) (j 1) (j 2) _ rfl _ rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ,
  frame_reference,
  fun m ρ _ => Cert.Kernel2.Gen.frame m ρ, fun m ρ _ => Cert.Kernel2Ideal.Gen.frame m ρ,
  frame_reference2,
  fun m ρ _ => Cert.Kernel3.Gen.frame m ρ, fun m ρ _ => Cert.Kernel3Ideal.Gen.frame m ρ,
  frame_reference3,
  IdealRules.named_const.statement Cert.KernelIdeal.κ "qscale" .f32 0x3E38AA3B#32 _ rfl, decode, trivial, feed_forward, trivial, in_projection⟩

end Cert.Proof

end
